-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v30_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x4096x1024 : Shape := ⟨3, ![8, 4096, 1024]⟩
abbrev S1024x64 : Shape := ⟨2, ![1024, 64]⟩
abbrev S64x1024 : Shape := ⟨2, ![64, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S8x4096x1024 .f32) (main_arg1 : FVec F S1024x64 .f32) (main_arg2 : FVec F S1024x64 .f32) (main_arg3 : FVec F S1024x64 .f32) (main_arg4 : FVec F S64x1024 .f32) (main_arg5 : FVec F S1024 .f32) (main_arg6 : FVec F S1024x1 .f32) (main_arg7 : FVec F S1 .f32) (main_arg8 : FVec F S1 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S8x4096x1024 : Shape := ⟨3, ![8, 4096, 1024]⟩
abbrev S1024x64 : Shape := ⟨2, ![1024, 64]⟩
abbrev S64x1024 : Shape := ⟨2, ![64, 1024]⟩
abbrev S1024 : Shape := ⟨1, ![1024]⟩
abbrev S1024x1 : Shape := ⟨2, ![1024, 1]⟩
abbrev S1 : Shape := ⟨1, ![1]⟩
abbrev S_ : Shape := ⟨0, ![]⟩
abbrev S3 : Shape := ⟨1, ![3]⟩
abbrev S1x1024x1x1 : Shape := ⟨4, ![1, 1024, 1, 1]⟩
abbrev S1x1024x64x1 : Shape := ⟨4, ![1, 1024, 64, 1]⟩
abbrev S1024x256 : Shape := ⟨2, ![1024, 256]⟩
abbrev S1x1024 : Shape := ⟨2, ![1, 1024]⟩
abbrev S8x64x64 : Shape := ⟨3, ![8, 64, 64]⟩
abbrev S1x2048x1024 : Shape := ⟨3, ![1, 2048, 1024]⟩
abbrev S1x64x64 : Shape := ⟨3, ![1, 64, 64]⟩
abbrev S512x512 : Shape := ⟨2, ![512, 512]⟩
abbrev S512x128 : Shape := ⟨2, ![512, 128]⟩
abbrev S512x64 : Shape := ⟨2, ![512, 64]⟩
abbrev S64x64 : Shape := ⟨2, ![64, 64]⟩
abbrev S1x512x1024 : Shape := ⟨3, ![1, 512, 1024]⟩
abbrev S512x1024 : Shape := ⟨2, ![512, 1024]⟩
abbrev S512x256 : Shape := ⟨2, ![512, 256]⟩

abbrev nBuf : Space → Nat
  | .hbm => 42
  | .vmem => 11
  | .smem => 1
  | _ => 0

abbrev bufTy : (tb : Table) → Fin (tcTables nBuf tb) → BufTy
  | .hbm, ⟨0, _⟩ => ⟨S8x4096x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S64x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1, .f32⟩
  | .hbm, ⟨32, _⟩ => ⟨S1, .f32⟩
  | .hbm, ⟨33, _⟩ => ⟨S1, .f32⟩
  | .hbm, ⟨34, _⟩ => ⟨S3, .f32⟩
  | .hbm, ⟨35, _⟩ => ⟨S1x1024x1x1, .f32⟩
  | .hbm, ⟨36, _⟩ => ⟨S1x1024x64x1, .f32⟩
  | .hbm, ⟨37, _⟩ => ⟨S1024x64, .f32⟩
  | .hbm, ⟨38, _⟩ => ⟨S1024x256, .f32⟩
  | .hbm, ⟨39, _⟩ => ⟨S1x1024, .f32⟩
  | .hbm, ⟨40, _⟩ => ⟨S8x4096x1024, .f32⟩
  | .hbm, ⟨41, _⟩ => ⟨S8x64x64, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x256, .f32⟩
  | .local _ .vmem, ⟨3, _⟩ => ⟨S64x1024, .f32⟩
  | .local _ .vmem, ⟨4, _⟩ => ⟨S1x1024, .f32⟩
  | .local _ .vmem, ⟨5, _⟩ => ⟨S1x2048x1024, .f32⟩
  | .local _ .vmem, ⟨6, _⟩ => ⟨S1x2048x1024, .f32⟩
  | .local _ .vmem, ⟨7, _⟩ => ⟨S1x64x64, .f32⟩
  | .local _ .vmem, ⟨8, _⟩ => ⟨S1x64x64, .f32⟩
  | .local _ .vmem, ⟨9, _⟩ => ⟨S512x512, .f32⟩
  | .local _ .vmem, ⟨10, _⟩ => ⟨S512x128, .f32⟩
  | .local _ .smem, ⟨0, _⟩ => ⟨S3, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27_0 : Ref sig .tc := ⟨.hbm, 40, rfl⟩
abbrev main_v27_1 : Ref sig .tc := ⟨.hbm, 41, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S8x4096x1024 : Shape := ⟨3, ![8, 4096, 1024]⟩
abbrev S1024x64 : Shape := ⟨2, ![1024, 64]⟩
abbrev S64x1024 : Shape := ⟨2, ![64, 1024]⟩
abbrev S1024 : Shape := ⟨1, ![1024]⟩
abbrev S1024x1 : Shape := ⟨2, ![1024, 1]⟩
abbrev S1 : Shape := ⟨1, ![1]⟩
abbrev S_ : Shape := ⟨0, ![]⟩
abbrev S8x4096x64 : Shape := ⟨3, ![8, 4096, 64]⟩
abbrev S8x4096x1 : Shape := ⟨3, ![8, 4096, 1]⟩
abbrev S1x1x1 : Shape := ⟨3, ![1, 1, 1]⟩
abbrev S8x4096 : Shape := ⟨2, ![8, 4096]⟩
abbrev S8x64x64 : Shape := ⟨3, ![8, 64, 64]⟩
abbrev S4096x8x64 : Shape := ⟨3, ![4096, 8, 64]⟩
abbrev S4096x8 : Shape := ⟨2, ![4096, 8]⟩
abbrev S1x8x64 : Shape := ⟨3, ![1, 8, 64]⟩
abbrev S8x64 : Shape := ⟨2, ![8, 64]⟩
abbrev S1x8 : Shape := ⟨2, ![1, 8]⟩
abbrev S8 : Shape := ⟨1, ![8]⟩
abbrev S8x1 : Shape := ⟨2, ![8, 1]⟩
abbrev S8x64x1 : Shape := ⟨3, ![8, 64, 1]⟩
abbrev S8x1x64 : Shape := ⟨3, ![8, 1, 64]⟩
abbrev S1x1x1024 : Shape := ⟨3, ![1, 1, 1024]⟩

abbrev nBuf : Space → Nat
  | .hbm => 100
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S64x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S1, .f32⟩
  | .hbm, ⟨11, _⟩ => ⟨S_, .f32⟩
  | .hbm, ⟨12, _⟩ => ⟨S1, .f32⟩
  | .hbm, ⟨13, _⟩ => ⟨S1, .f32⟩
  | .hbm, ⟨14, _⟩ => ⟨S_, .f32⟩
  | .hbm, ⟨15, _⟩ => ⟨S1, .f32⟩
  | .hbm, ⟨16, _⟩ => ⟨S1, .f32⟩
  | .hbm, ⟨17, _⟩ => ⟨S_, .f32⟩
  | .hbm, ⟨18, _⟩ => ⟨S1, .f32⟩
  | .hbm, ⟨19, _⟩ => ⟨S1, .f32⟩
  | .hbm, ⟨20, _⟩ => ⟨S_, .f32⟩
  | .hbm, ⟨21, _⟩ => ⟨S1, .f32⟩
  | .hbm, ⟨22, _⟩ => ⟨S1, .f32⟩
  | .hbm, ⟨23, _⟩ => ⟨S8x4096x64, .f32⟩
  | .hbm, ⟨24, _⟩ => ⟨S8x4096x64, .f32⟩
  | .hbm, ⟨25, _⟩ => ⟨S8x4096x64, .f32⟩
  | .hbm, ⟨26, _⟩ => ⟨S8x4096x1, .f32⟩
  | .hbm, ⟨27, _⟩ => ⟨S1x1x1, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S8x4096x1, .f32⟩
  | .hbm, ⟨32, _⟩ => ⟨S_, .f32⟩
  | .hbm, ⟨33, _⟩ => ⟨S8x4096x1, .f32⟩
  | .hbm, ⟨34, _⟩ => ⟨S8x4096x1, .f32⟩
  | .hbm, ⟨35, _⟩ => ⟨S_, .f32⟩
  | .hbm, ⟨36, _⟩ => ⟨S8x4096x1, .f32⟩
  | .hbm, ⟨37, _⟩ => ⟨S8x4096x1, .f32⟩
  | .hbm, ⟨38, _⟩ => ⟨S8x4096, .f32⟩
  | .hbm, ⟨39, _⟩ => ⟨S_, .f32⟩
  | .hbm, ⟨40, _⟩ => ⟨S8x64x64, .f32⟩
  | .hbm, ⟨41, _⟩ => ⟨S4096x8x64, .f32⟩
  | .hbm, ⟨42, _⟩ => ⟨S4096x8x64, .f32⟩
  | .hbm, ⟨43, _⟩ => ⟨S4096x8x64, .f32⟩
  | .hbm, ⟨44, _⟩ => ⟨S4096x8, .f32⟩
  | .hbm, ⟨45, _⟩ => ⟨S_, .f32⟩
  | .hbm, ⟨46, _⟩ => ⟨S4096x8x64, .f32⟩
  | .hbm, ⟨47, _⟩ => ⟨S_, .i32⟩
  | .hbm, ⟨48, _⟩ => ⟨S4096x8x64, .f32⟩
  | .hbm, ⟨49, _⟩ => ⟨S4096x8x64, .f32⟩
  | .hbm, ⟨50, _⟩ => ⟨S4096x8x64, .f32⟩
  | .hbm, ⟨51, _⟩ => ⟨S4096x8, .f32⟩
  | .hbm, ⟨52, _⟩ => ⟨S1, .f32⟩
  | .hbm, ⟨53, _⟩ => ⟨S_, .i32⟩
  | .hbm, ⟨54, _⟩ => ⟨S8x64x64, .f32⟩
  | .hbm, ⟨55, _⟩ => ⟨S4096x8x64, .f32⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S1x8x64, .f32⟩
  | .hbm, ⟨61, _⟩ => ⟨S8x64, .f32⟩
  | .hbm, ⟨62, _⟩ => ⟨S_, .i32⟩
  | .hbm, ⟨63, _⟩ => ⟨S_, .i32⟩
  | .hbm, ⟨64, _⟩ => ⟨S1x8x64, .f32⟩
  | .hbm, ⟨65, _⟩ => ⟨S8x64, .f32⟩
  | .hbm, ⟨66, _⟩ => ⟨S_, .i32⟩
  | .hbm, ⟨67, _⟩ => ⟨S_, .i32⟩
  | .hbm, ⟨68, _⟩ => ⟨S1x8x64, .f32⟩
  | .hbm, ⟨69, _⟩ => ⟨S8x64, .f32⟩
  | .hbm, ⟨70, _⟩ => ⟨S_, .i32⟩
  | .hbm, ⟨71, _⟩ => ⟨S1x8, .f32⟩
  | .hbm, ⟨72, _⟩ => ⟨S8, .f32⟩
  | .hbm, ⟨73, _⟩ => ⟨S8x1, .f32⟩
  | .hbm, ⟨74, _⟩ => ⟨S8x64, .f32⟩
  | .hbm, ⟨75, _⟩ => ⟨S8x64, .f32⟩
  | .hbm, ⟨76, _⟩ => ⟨S8x1, .f32⟩
  | .hbm, ⟨77, _⟩ => ⟨S8x64, .f32⟩
  | .hbm, ⟨78, _⟩ => ⟨S8x64, .f32⟩
  | .hbm, ⟨79, _⟩ => ⟨S1x1x1, .f32⟩
  | .hbm, ⟨80, _⟩ => ⟨S8x64x64, .f32⟩
  | .hbm, ⟨81, _⟩ => ⟨S8x64x64, .f32⟩
  | .hbm, ⟨82, _⟩ => ⟨S8x64x1, .f32⟩
  | .hbm, ⟨83, _⟩ => ⟨S8x1x64, .f32⟩
  | .hbm, ⟨84, _⟩ => ⟨S8x64x64, .f32⟩
  | .hbm, ⟨85, _⟩ => ⟨S8x64x64, .f32⟩
  | .hbm, ⟨86, _⟩ => ⟨S8x64x64, .f32⟩
  | .hbm, ⟨87, _⟩ => ⟨S8x64x64, .f32⟩
  | .hbm, ⟨88, _⟩ => ⟨S8x64, .f32⟩
  | .hbm, ⟨89, _⟩ => ⟨S1x8x64, .f32⟩
  | .hbm, ⟨90, _⟩ => ⟨S_, .i32⟩
  | .hbm, ⟨91, _⟩ => ⟨S_, .i32⟩
  | .hbm, ⟨92, _⟩ => ⟨S4096x8x64, .f32⟩
  | .hbm, ⟨93, _⟩ => ⟨S_, .i32⟩
  | .hbm, ⟨94, _⟩ => ⟨S_, .i32⟩
  | .hbm, ⟨95, _⟩ => ⟨S8x4096x64, .f32⟩
  | .hbm, ⟨96, _⟩ => ⟨S8x4096x1024, .f32⟩
  | .hbm, ⟨97, _⟩ => ⟨S1x1x1024, .f32⟩
  | .hbm, ⟨98, _⟩ => ⟨S8x4096x1024, .f32⟩
  | .hbm, ⟨99, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_c : Ref sig .tc := ⟨.hbm, 47, rfl⟩
abbrev main_v30_0 : Ref sig .tc := ⟨.hbm, 48, rfl⟩
abbrev main_v30_1 : Ref sig .tc := ⟨.hbm, 49, rfl⟩
abbrev main_v30_2 : Ref sig .tc := ⟨.hbm, 50, rfl⟩
abbrev main_v30_3 : Ref sig .tc := ⟨.hbm, 51, rfl⟩
abbrev main_v30_4 : Ref sig .tc := ⟨.hbm, 52, rfl⟩
abbrev main_v30_5 : Ref sig .tc := ⟨.hbm, 53, rfl⟩
abbrev main_v30_6 : Ref sig .tc := ⟨.hbm, 54, rfl⟩
abbrev main_v30_7 : Ref sig .tc := ⟨.hbm, 55, rfl⟩
abbrev main_while0c_c_14 : Ref sig .tc := ⟨.hbm, 56, rfl⟩
abbrev main_while0c_v36 : Ref sig .tc := ⟨.hbm, 57, rfl⟩
abbrev main_while0b_call0_c : Ref sig .tc := ⟨.hbm, 58, rfl⟩
abbrev main_while0b_call0_c_0 : Ref sig .tc := ⟨.hbm, 59, rfl⟩
abbrev main_while0b_call0_v0 : Ref sig .tc := ⟨.hbm, 60, rfl⟩
abbrev main_while0b_v36 : Ref sig .tc := ⟨.hbm, 61, rfl⟩
abbrev main_while0b_call1_c : Ref sig .tc := ⟨.hbm, 62, rfl⟩
abbrev main_while0b_call1_c_0 : Ref sig .tc := ⟨.hbm, 63, rfl⟩
abbrev main_while0b_call1_v0 : Ref sig .tc := ⟨.hbm, 64, rfl⟩
abbrev main_while0b_v37 : Ref sig .tc := ⟨.hbm, 65, rfl⟩
abbrev main_while0b_call2_c : Ref sig .tc := ⟨.hbm, 66, rfl⟩
abbrev main_while0b_call2_c_0 : Ref sig .tc := ⟨.hbm, 67, rfl⟩
abbrev main_while0b_call2_v0 : Ref sig .tc := ⟨.hbm, 68, rfl⟩
abbrev main_while0b_v38 : Ref sig .tc := ⟨.hbm, 69, rfl⟩
abbrev main_while0b_call3_c : Ref sig .tc := ⟨.hbm, 70, rfl⟩
abbrev main_while0b_call3_v0 : Ref sig .tc := ⟨.hbm, 71, rfl⟩
abbrev main_while0b_v39 : Ref sig .tc := ⟨.hbm, 72, rfl⟩
abbrev main_while0b_v40 : Ref sig .tc := ⟨.hbm, 73, rfl⟩
abbrev main_while0b_v41 : Ref sig .tc := ⟨.hbm, 74, rfl⟩
abbrev main_while0b_v42 : Ref sig .tc := ⟨.hbm, 75, rfl⟩
abbrev main_while0b_v43 : Ref sig .tc := ⟨.hbm, 76, rfl⟩
abbrev main_while0b_v44 : Ref sig .tc := ⟨.hbm, 77, rfl⟩
abbrev main_while0b_v45 : Ref sig .tc := ⟨.hbm, 78, rfl⟩
abbrev main_while0b_v46 : Ref sig .tc := ⟨.hbm, 79, rfl⟩
abbrev main_while0b_v47 : Ref sig .tc := ⟨.hbm, 80, rfl⟩
abbrev main_while0b_v48 : Ref sig .tc := ⟨.hbm, 81, rfl⟩
abbrev main_while0b_v49 : Ref sig .tc := ⟨.hbm, 82, rfl⟩
abbrev main_while0b_v50 : Ref sig .tc := ⟨.hbm, 83, rfl⟩
abbrev main_while0b_v51 : Ref sig .tc := ⟨.hbm, 84, rfl⟩
abbrev main_while0b_v52 : Ref sig .tc := ⟨.hbm, 85, rfl⟩
abbrev main_while0b_v53 : Ref sig .tc := ⟨.hbm, 86, rfl⟩
abbrev main_while0b_v54 : Ref sig .tc := ⟨.hbm, 87, rfl⟩
abbrev main_while0b_v55 : Ref sig .tc := ⟨.hbm, 88, rfl⟩
abbrev main_while0b_call4_v0 : Ref sig .tc := ⟨.hbm, 89, rfl⟩
abbrev main_while0b_call4_c : Ref sig .tc := ⟨.hbm, 90, rfl⟩
abbrev main_while0b_call4_c_0 : Ref sig .tc := ⟨.hbm, 91, rfl⟩
abbrev main_while0b_v56 : Ref sig .tc := ⟨.hbm, 92, rfl⟩
abbrev main_while0b_c_14 : Ref sig .tc := ⟨.hbm, 93, rfl⟩
abbrev main_while0b_v57 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩

abbrev nD : Nat := 1
abbrev τ : Topo := Topo.v7x

variable {F : FTy → Type} [FloatOps F]

abbrev main_while0_count : Scf.Loop 32 := ⟨0#32, 4096#32, 1#32⟩
-- ==== Proof.Recur.lean ====
module

public import Idealize.ShloMosaic.PureOps.Ideal
public import Mathlib.Tactic.Ring
public import Mathlib.Algebra.BigOperators.Fin

@[expose] public section

/-! # The recurrence over the reals

Gated linear attention with decay keeps one 64 × 64 state per sequence.  At every step the state is
multiplied by the decay and the outer product of the gated key and the gated value is added; the row that is
read out is the query times the new state.  This module defines the two and proves that a chunk of 512
steps can be taken at once, which is what the kernel does. -/

noncomputable section

namespace Cert.Gla

open Finset

/-- The state before step `t`: zero at first, then decay times the state plus the gated outer product. -/
def state (d : ℝ) (g : ℕ → ℝ) (k v : ℕ → Fin 64 → ℝ) : ℕ → Fin 64 → Fin 64 → ℝ
  | 0, _, _ => 0
  | t + 1, a, e => d * state d g k v t a e + k t a * g t * (v t e * g t)

/-- The row read out at step `t`: the query times the state after the step. -/
def readout (d : ℝ) (g : ℕ → ℝ) (q k v : ℕ → Fin 64 → ℝ) (t : ℕ) (e : Fin 64) : ℝ :=
  ∑ a, q t a * state d g k v (t + 1) a e

variable (d : ℝ) (g : ℕ → ℝ) (q k v : ℕ → Fin 64 → ℝ)

/-- The state `m` steps on: the old state decayed `m` times, plus each step's outer product decayed by the
    number of steps since. -/
theorem state_add (t m : ℕ) (a e : Fin 64) :
    state d g k v (t + m) a e = d ^ m * state d g k v t a e
      + ∑ s ∈ range m, d ^ (m - 1 - s) * (k (t + s) a * g (t + s) * (v (t + s) e * g (t + s))) := by
  induction m with
  | zero => simp
  | succ m ih =>
    rw [← Nat.add_assoc, state, ih, sum_range_succ, mul_add, mul_sum]
    have hs : ∀ s ∈ range m,
        d * (d ^ (m - 1 - s) * (k (t + s) a * g (t + s) * (v (t + s) e * g (t + s))))
          = d ^ (m + 1 - 1 - s) * (k (t + s) a * g (t + s) * (v (t + s) e * g (t + s))) := by
      intro s hs
      have : m + 1 - 1 - s = (m - 1 - s) + 1 := by have := mem_range.mp hs; omega
      rw [this, pow_succ]; ring
    rw [sum_congr rfl hs]
    simp only [Nat.add_sub_cancel, Nat.sub_self, pow_zero]
    ring

/-- One chunk's new state as the kernel computes it: the old one times the 512th power of the decay, plus
    the product of the decayed gated keys with the values. -/
theorem chunk_state (t : ℕ) (a e : Fin 64) :
    d ^ 512 * state d g k v t a e
      + ∑ s : Fin 512, k (t + s) a * (g (t + s) * g (t + s)) * d ^ (511 - (s : ℕ)) * v (t + s) e
      = state d g k v (t + 512) a e := by
  rw [state_add, ← Fin.sum_univ_eq_sum_range
    (fun s => d ^ (512 - 1 - s) * (k (t + s) a * g (t + s) * (v (t + s) e * g (t + s)))) 512]
  congr 1
  exact sum_congr rfl fun s _ => by ring

/-- A sum over a chunk under the causal mask is the sum over the steps up to the current one. -/
theorem sum_masked (i : Fin 512) (f : ℕ → ℝ) :
    ∑ s : Fin 512, (if (s : ℕ) ≤ i then f s else 0) = ∑ s ∈ range ((i : ℕ) + 1), f s := by
  rw [Fin.sum_univ_eq_sum_range (fun s => if s ≤ (i : ℕ) then f s else 0) 512, ← sum_filter]
  refine sum_congr ?_ fun _ _ => rfl
  ext s; simp only [mem_filter, mem_range]; have := i.isLt; omega

/-- One row of a chunk as the kernel computes it: the masked products of the query with the chunk's own
    gated keys times their values, plus the decayed query times the state before the chunk. -/
theorem chunk_out (t : ℕ) (i : Fin 512) (e : Fin 64) :
    ∑ s : Fin 512, (∑ a, q (t + i) a * (k (t + s) a * (g (t + s) * g (t + s))))
        * (if (s : ℕ) ≤ i then d ^ ((i : ℕ) - s) else 0) * v (t + s) e
      + ∑ a, q (t + i) a * d ^ ((i : ℕ) + 1) * state d g k v t a e
      = readout d g q k v (t + i) e := by
  obtain ⟨f, hf⟩ : ∃ f : ℕ → ℝ, f = fun s => ∑ a, q (t + i) a
      * (d ^ ((i : ℕ) - s) * (k (t + s) a * g (t + s) * (v (t + s) e * g (t + s)))) := ⟨_, rfl⟩
  have h1 : ∀ s : Fin 512, (∑ a, q (t + i) a * (k (t + s) a * (g (t + s) * g (t + s))))
        * (if (s : ℕ) ≤ i then d ^ ((i : ℕ) - s) else 0) * v (t + s) e
      = if (s : ℕ) ≤ i then f s else 0 := by
    intro s
    split
    · rw [sum_mul, sum_mul, hf]; exact sum_congr rfl fun a _ => by ring
    · ring
  rw [sum_congr rfl fun s _ => h1 s, sum_masked i f, hf, sum_comm, ← sum_add_distrib, readout]
  refine sum_congr rfl fun a _ => ?_
  rw [Nat.add_assoc, state_add, mul_add, mul_sum, add_comm, Nat.add_sub_cancel, mul_assoc]

end Cert.Gla

end
-- ==== Proof.Chunk.lean ====
module

public import proofs.«01_k».proof.Proof.Gen.KernelIdeal.Skeleton
public import proofs.«01_k».proof.Proof.Recur
public import Idealize.ShloMosaic.Lib.Pointwise

@[expose] public section

set_option maxRecDepth 16384

/-! # One chunk of the kernel's body, read over the reals

The body treats a grid step's 2048 rows as four chunks of 512.  This module names what a chunk does to the
state and the rows it stores, and proves what these are when the chunk's queries, gated keys and values and
the incoming state are real. -/

noncomputable section

namespace Cert.Gla

open Idealize.ShloMosaic Idealize.ShloMosaic.Tactic
open Cert.KernelIdeal Cert.KernelIdeal.Gen
open Finset

/-- A finite sum of reals, read as an extended real, is the sum of the extended reals. -/
theorem coe_sum {ι : Type*} (s : Finset ι) (f : ι → ℝ) :
    ((∑ i ∈ s, f i : ℝ) : EReal) = ∑ i ∈ s, (f i : EReal) := by
  classical
  induction s using Finset.induction_on with
  | empty => rfl
  | insert a s ha ih => rw [sum_insert ha, sum_insert ha, EReal.coe_add, ih]

/-- The state after a chunk: the state before it times the chunk's decay, plus the gated keys (weighted by
    the decay left to the chunk's end) against the values. -/
def chunkState (bg D : EReal) (rp : FVec Ideal S512x64 .f32) (w : FVec Ideal S1024x256 .f32)
    (S : FVec Ideal S64x64 .f32) (x : FVec Ideal S1x512x1024 .f32) : FVec Ideal S64x64 .f32 :=
  k0_pay13 (F := Ideal) D rp S (k0_pay8 x w) (k0_pay10 bg x w)

/-- The rows a chunk stores. -/
def chunkRows (bg : EReal) (mask : FVec Ideal S512x512 .f32) (dp : FVec Ideal S512x64 .f32)
    (w : FVec Ideal S1024x256 .f32) (wo : FVec Ideal S64x1024 .f32) (bo : FVec Ideal S1x1024 .f32)
    (S : FVec Ideal S64x64 .f32) (x : FVec Ideal S1x512x1024 .f32) : FVec Ideal S1x512x1024 .f32 :=
  k0_pay12 (F := Ideal) dp S (k0_pay8 x w) (k0_pay9 x w) (k0_pay11 bg mask x w) wo bo

section Reals

variable {d : ℝ} {g : ℕ → ℝ} {q k v : ℕ → Fin 64 → ℝ} {t : ℕ}
variable {bg D : EReal} {mask : FVec Ideal S512x512 .f32} {dp rp : FVec Ideal S512x64 .f32}
  {w : FVec Ideal S1024x256 .f32} {wo : FVec Ideal S64x1024 .f32} {bo : FVec Ideal S1x1024 .f32}
  {S : FVec Ideal S64x64 .f32} {x : FVec Ideal S1x512x1024 .f32}

/-- The state after a chunk is the state of the recurrence 512 steps on. -/
theorem chunkState_apply
    (hS : ∀ a e, S (ix2 a e) = (state d g k v t a e : EReal))
    (hv : ∀ (i : Fin 512) e, k0_pay8 (F := Ideal) x w (ix2 i e) = (v (t + i) e : EReal))
    (hk : ∀ (i : Fin 512) a, k0_pay10 (F := Ideal) bg x w (ix2 i a)
      = ((k (t + i) a * (g (t + i) * g (t + i)) : ℝ) : EReal))
    (hD : D = ((d ^ 512 : ℝ) : EReal))
    (hr : ∀ (i : Fin 512) a, rp (ix2 i a) = ((d ^ (511 - (i : ℕ)) : ℝ) : EReal)) (a e : Fin 64) :
    chunkState bg D rp w S x (ix2 a e) = (state d g k v (t + 512) a e : EReal) := by
  rw [← chunk_state, chunkState]
  generalize k0_pay8 (F := Ideal) x w = V at hv
  generalize k0_pay10 (F := Ideal) bg x w = G at hk
  pointwise [k0_pay13]
  simp only [hS, hv, hk, hD, hr, EReal.coe_add, EReal.coe_mul, coe_sum]

/-- A row stored by a chunk is the recurrence's readout at that step times the output weights, plus the
    output bias; the weights and the bias may be infinite. -/
theorem chunkRows_apply
    (hS : ∀ a e, S (ix2 a e) = (state d g k v t a e : EReal))
    (hv : ∀ (i : Fin 512) e, k0_pay8 (F := Ideal) x w (ix2 i e) = (v (t + i) e : EReal))
    (hq : ∀ (i : Fin 512) e, k0_pay9 (F := Ideal) x w (ix2 i e) = (q (t + i) e : EReal))
    (hk : ∀ (i : Fin 512) a, k0_pay10 (F := Ideal) bg x w (ix2 i a)
      = ((k (t + i) a * (g (t + i) * g (t + i)) : ℝ) : EReal))
    (hm : ∀ i s : Fin 512, mask (ix2 i s)
      = ((if (s : ℕ) ≤ i then d ^ ((i : ℕ) - s) else 0 : ℝ) : EReal))
    (hd : ∀ (i : Fin 512) a, dp (ix2 i a) = ((d ^ ((i : ℕ) + 1) : ℝ) : EReal))
    (i : Fin 512) (c : Fin 1024) :
    chunkRows bg mask dp w wo bo S x (ix3 0 i c)
      = ∑ e, (readout d g q k v (t + i) e : EReal) * wo (ix2 e c) + bo (ix2 0 c) := by
  have hr : ∀ e, (readout d g q k v (t + i) e : EReal)
      = ∑ s : Fin 512, k0_pay11 (F := Ideal) bg mask x w (ix2 i s) * k0_pay8 (F := Ideal) x w (ix2 s e)
        + ∑ a, k0_pay9 (F := Ideal) x w (ix2 i a) * dp (ix2 i a) * S (ix2 a e) := by
    intro e
    rw [← chunk_out]
    pointwise [k0_pay11]
    simp only [hS, hv, hq, hk, hm, hd, EReal.coe_add, EReal.coe_mul, coe_sum]
  simp only [hr]
  rw [chunkRows]
  generalize k0_pay8 (F := Ideal) x w = V
  generalize k0_pay9 (F := Ideal) x w = Q
  generalize k0_pay11 (F := Ideal) bg mask x w = A
  pointwise [k0_pay12]

end Reals

end Cert.Gla
-- ==== Proof.Point.lean ====
module

public import proofs.«01_k».proof.Proof.Gen.KernelIdeal.Frame
public import proofs.«01_k».proof.Proof.Chunk
public import Idealize.ShloMosaic.Lib.Pipeline.ValueKit
public import Idealize.ShloMosaic.Lib.Pipeline.ReadBack

@[expose] public section

set_option maxRecDepth 16384

/-! # One grid step of the kernel

What the two output blocks and the two scratches hold after one grid step, in terms of the chunks of
`Proof.Chunk`: four chunks one after another, starting from the state block the step finds. -/

noncomputable section

namespace Cert.Gla

open Idealize.ShloMosaic Idealize.ShloMosaic.TcCoe Idealize.ShloMosaic.Tactic Idealize.SL.Sem
open Cert.KernelIdeal Cert.KernelIdeal.Gen

/-- Chunk `n` of a grid step's block of rows. -/
def chunkOf (X : FVec Ideal S1x2048x1024 .f32) (n : ℕ) : FVec Ideal S1x512x1024 .f32 :=
  fun j => X (ix3 0 (Fin.ofNat 2048 (512 * n + (j 1 : ℕ))) (j 2))

/-- The left 64 columns of the table of powers. -/
def leftHalf (P : FVec Ideal S512x128 .f32) : FVec Ideal S512x64 .f32 :=
  fun j => P (ix2 (j 0) (Fin.castLE (by decide) (j 1)))

/-- The right 64 columns of the table of powers. -/
def rightHalf (P : FVec Ideal S512x128 .f32) : FVec Ideal S512x64 .f32 :=
  fun j => P (ix2 (j 0) (Fin.natAdd 64 (j 1)))

variable (s : FVec Ideal S3 .f32) (X : FVec Ideal S1x2048x1024 .f32) (w : FVec Ideal S1024x256 .f32)
  (wo : FVec Ideal S64x1024 .f32) (bo : FVec Ideal S1x1024 .f32) (M : FVec Ideal S512x512 .f32)
  (P : FVec Ideal S512x128 .f32) (S : FVec Ideal S64x64 .f32)

/-- The state after `n` chunks of a grid step. -/
def stateAt : ℕ → FVec Ideal S64x64 .f32
  | 0 => S
  | n + 1 => chunkState (s (ix1 0)) (s (ix1 2)) (rightHalf P) w (stateAt n) (chunkOf X n)

/-- The rows stored by chunk `n` of a grid step. -/
def rowsAt (n : ℕ) : FVec Ideal S1x512x1024 .f32 :=
  chunkRows (s (ix1 0)) M (leftHalf P) w wo bo (stateAt s X w P S n) (chunkOf X n)

/-- The block of rows a grid step stores. -/
def rowsBlock : FVec Ideal S1x2048x1024 .f32 :=
  fun j => rowsAt s X w wo bo M P S ((j 1 : ℕ) / 512) (ix3 0 (Fin.ofNat 512 ((j 1 : ℕ) % 512)) (j 2))

/-- The state block a grid step leaves. -/
def stateBlock : FVec Ideal S1x64x64 .f32 :=
  fun j => stateAt s X w P S 4 (ix2 (j 1) (j 2))

/-- The first scalar (the gate's bias) as the body loads it. -/
theorem ld_scal0 (h : 0 < S1.numel) :
    View.ld (Val := Elt Ideal) (e' := .f32) s (Rect.unit (s := S3) ![0] S1.size inb_S3_S1_0) (Shape.Idx.first h)
      = s (ix1 0) := by
  unfold Shape.Idx.first; pointwise

/-- The second scalar (the decay's logarithm) as the body loads it. -/
theorem ld_scal1 (h : 0 < S1.numel) :
    View.ld (Val := Elt Ideal) (e' := .f32) s (Rect.unit (s := S3) ![1] S1.size inb_S3_S1_1) (Shape.Idx.first h)
      = s (ix1 1) := by
  unfold Shape.Idx.first; pointwise

/-- The third scalar (a chunk's decay) as the body loads it. -/
theorem ld_scal2 (h : 0 < S1.numel) :
    View.ld (Val := Elt Ideal) (e' := .f32) s (Rect.unit (s := S3) ![2] S1.size inb_S3_S1_2) (Shape.Idx.first h)
      = s (ix1 2) := by
  unfold Shape.Idx.first; pointwise

/-- The left half of the table of powers as the body loads it. -/
theorem ld_left : View.ld (Val := Elt Ideal) (e' := .f32) P
    (Rect.unit (s := S512x128) ![0, 0] S512x64.size inb_S512x128_S512x64_0_0) = leftHalf P := by
  funext j; idx_vars j; pointwise [leftHalf]; rfl

/-- The right half of the table of powers as the body loads it. -/
theorem ld_right : View.ld (Val := Elt Ideal) (e' := .f32) P
    (Rect.unit (s := S512x128) ![0, 64] S512x64.size inb_S512x128_S512x64_0_64) = rightHalf P := by
  funext j; idx_vars j; pointwise [rightHalf]; rfl

/-- A load of 512 rows from row `o` on is a chunk. -/
theorem ld_rows (o n : ℕ) (ho : o = 512 * n) (inb : ∀ a, (![0, o, 0] : Fin 3 → ℕ) a + S1x512x1024.size a
      ≤ S1x2048x1024.size a) :
    View.ld (Val := Elt Ideal) (e' := .f32) X (Rect.unit (s := S1x2048x1024) ![0, o, 0] S1x512x1024.size inb) = chunkOf X n := by
  have h1 := inb 1
  change o + 512 ≤ 2048 at h1
  funext j
  refine View.ld_unit_apply_of (Val := Elt Ideal) (e := .f32) X _ _ inb j _ fun a => ?_
  have h0 : (j 0 : ℕ) < 1 := (j 0).isLt
  have h2 : (j 1 : ℕ) < 512 := (j 1).isLt
  match a with
  | 0 => change 0 = 0 + (j 0 : ℕ); omega
  | 1 => change (512 * n + (j 1 : ℕ)) % 2048 = o + (j 1 : ℕ); omega
  | 2 => change (j 2 : ℕ) = 0 + (j 2 : ℕ); omega

/-- The four stores of a grid step, read back as one block. -/
theorem rows_canon :
    View.canon (Val := Elt Ideal) (s := S1x2048x1024) (e := .f32)
      [⟨Rect.unit (s := S1x2048x1024) ![0, 1536, 0] S1x512x1024.size inb_S1x2048x1024_S1x512x1024_0_1536_0, rowsAt s X w wo bo M P S 3⟩,
       ⟨Rect.unit (s := S1x2048x1024) ![0, 1024, 0] S1x512x1024.size inb_S1x2048x1024_S1x512x1024_0_1024_0, rowsAt s X w wo bo M P S 2⟩,
       ⟨Rect.unit (s := S1x2048x1024) ![0, 512, 0] S1x512x1024.size inb_S1x2048x1024_S1x512x1024_0_512_0, rowsAt s X w wo bo M P S 1⟩,
       ⟨Rect.unit (s := S1x2048x1024) ![0, 0, 0] S1x512x1024.size inb_S1x2048x1024_S1x512x1024_0_0_0, rowsAt s X w wo bo M P S 0⟩]
      = rowsBlock s X w wo bo M P S := by
  have key : ∀ (n : ℕ) (j : S1x2048x1024.Idx) (x : S1x512x1024.Idx), (j 1 : ℕ) = 512 * n + (x 1 : ℕ) →
      (j 2 : ℕ) = (x 2 : ℕ) → rowsAt s X w wo bo M P S n x = rowsBlock s X w wo bo M P S j := by
    intro n j x h1 h2
    have hx : (x 1 : ℕ) < 512 := (x 1).isLt
    have hn : (j 1 : ℕ) / 512 = n := by omega
    unfold rowsBlock
    rw [hn]
    refine congrArg _ (funext fun a => Fin.ext ?_)
    have hx0 : (x 0 : ℕ) < 1 := (x 0).isLt
    match a with
    | 0 => change (x 0 : ℕ) = 0; omega
    | 1 => change (x 1 : ℕ) = ((j 1 : ℕ) % 512) % 512; omega
    | 2 => change (x 2 : ℕ) = (j 2 : ℕ); omega
  funext j
  canon_tiles x h
  · exact key 3 j x h1 h2
  · exact key 2 j x h1 h2
  · exact key 1 j x h1 h2
  · exact key 0 j x (by omega) h2

/-- The last payload is the fourth chunk's state under a unit axis. -/
theorem pay2_apply (D : EReal) (rp V G : FVec Ideal S512x64 .f32) (j : S1x64x64.Idx) :
    k0_pay2 (F := Ideal) D rp S V G j = k0_pay13 (F := Ideal) D rp S V G (ix2 (j 1) (j 2)) := by
  idx_vars j; pointwise [k0_pay2, k0_pay13]

variable (m : (ℓ : Loc nD τ sig) → Buf (Elt Ideal) ℓ) (c : Dev nD) (t : Fin cfg0.N)

/-- Past the first step of a sequence: the state block continues from the one the step before left. -/
theorem state_B (h0 : ¬t.val % 16 = 0) (h1 : ¬t.val % 2 = 0) :
    (outsAt0 m c t.val t.isLt).2.1 = stateBlock (iblk m c 0 t) (iblk m c 1 t) (iblk m c 2 t)
      (outsAt0 m c (t.val - 1) (Nat.lt_of_le_of_lt (Nat.sub_le _ _) t.isLt)).2.2.2
      (k0_pay6 (F := Ideal) (outsAt0 m c (t.val - 1) (Nat.lt_of_le_of_lt (Nat.sub_le _ _) t.isLt)).2.1) := by
  rw [Gen.outsAt0_B m c t h0 h1]
  frame_out
  simp only [read_unread_whole]
  rw [ld_scal0, ld_scal2, ld_right, ld_rows _ 0 0 rfl, ld_rows _ 512 1 rfl, ld_rows _ 1024 2 rfl,
    ld_rows _ 1536 3 rfl]
  funext j
  exact pay2_apply _ _ _ _ _ j

/-- Past the first step of a sequence: the rows stored continue from the state the step before left. -/
theorem rows_B (h0 : ¬t.val % 16 = 0) (h1 : ¬t.val % 2 = 0) :
    (outsAt0 m c t.val t.isLt).1 = rowsBlock (iblk m c 0 t) (iblk m c 1 t) (iblk m c 2 t) (iblk m c 3 t) (iblk m c 4 t)
      (outsAt0 m c (t.val - 1) (Nat.lt_of_le_of_lt (Nat.sub_le _ _) t.isLt)).2.2.1
      (outsAt0 m c (t.val - 1) (Nat.lt_of_le_of_lt (Nat.sub_le _ _) t.isLt)).2.2.2
      (k0_pay6 (F := Ideal) (outsAt0 m c (t.val - 1) (Nat.lt_of_le_of_lt (Nat.sub_le _ _) t.isLt)).2.1) := by
  rw [Gen.outsAt0_B m c t h0 h1]
  frame_out
  simp only [read_unread_whole]
  rw [ld_scal0, ld_scal2, ld_left, ld_right, ld_rows _ 0 0 rfl, ld_rows _ 512 1 rfl, ld_rows _ 1024 2 rfl,
    ld_rows _ 1536 3 rfl]
  exact rows_canon _ _ _ _ _ _ _ _

/-- At the first step of a later sequence: the state block starts from zero. -/
theorem state_C (h0 : ¬t.val % 16 = 0) (h1 : t.val % 2 = 0) :
    (outsAt0 m c t.val t.isLt).2.1 = stateBlock (iblk m c 0 t) (iblk m c 1 t) (iblk m c 2 t)
      (outsAt0 m c (t.val - 1) (Nat.lt_of_le_of_lt (Nat.sub_le _ _) t.isLt)).2.2.2
      (k0_pay6 (F := Ideal) (k0_pay5 (F := Ideal))) := by
  rw [Gen.outsAt0_C m c t h0 h1]
  frame_out
  simp only [read_unread_whole]
  rw [ld_scal0, ld_scal2, ld_right, ld_rows _ 0 0 rfl, ld_rows _ 512 1 rfl, ld_rows _ 1024 2 rfl,
    ld_rows _ 1536 3 rfl]
  funext j
  exact pay2_apply _ _ _ _ _ j

/-- At the first step of a later sequence: the rows stored start from the zero state. -/
theorem rows_C (h0 : ¬t.val % 16 = 0) (h1 : t.val % 2 = 0) :
    (outsAt0 m c t.val t.isLt).1 = rowsBlock (iblk m c 0 t) (iblk m c 1 t) (iblk m c 2 t) (iblk m c 3 t) (iblk m c 4 t)
      (outsAt0 m c (t.val - 1) (Nat.lt_of_le_of_lt (Nat.sub_le _ _) t.isLt)).2.2.1
      (outsAt0 m c (t.val - 1) (Nat.lt_of_le_of_lt (Nat.sub_le _ _) t.isLt)).2.2.2
      (k0_pay6 (F := Ideal) (k0_pay5 (F := Ideal))) := by
  rw [Gen.outsAt0_C m c t h0 h1]
  frame_out
  simp only [read_unread_whole]
  rw [ld_scal0, ld_scal2, ld_left, ld_right, ld_rows _ 0 0 rfl, ld_rows _ 512 1 rfl, ld_rows _ 1024 2 rfl,
    ld_rows _ 1536 3 rfl]
  exact rows_canon _ _ _ _ _ _ _ _

/-- At the first grid step: the state block starts from zero, and the table of powers is the one just made. -/
theorem state_A (h0 : t.val % 16 = 0) (h1 : t.val % 2 = 0) :
    (outsAt0 m c t.val t.isLt).2.1 = stateBlock (iblk m c 0 t) (iblk m c 1 t) (iblk m c 2 t)
      (k0_pay4 (F := Ideal) (iblk m c 0 t (ix1 1)))
      (k0_pay6 (F := Ideal) (k0_pay5 (F := Ideal))) := by
  rw [Gen.outsAt0_A m c t h0 h1]
  frame_out
  simp (disch := decide) only [View.readCov_fill]
  rw [ld_scal0, ld_scal1, ld_scal2, ld_right, ld_rows _ 0 0 rfl, ld_rows _ 512 1 rfl, ld_rows _ 1024 2 rfl,
    ld_rows _ 1536 3 rfl]
  funext j
  exact pay2_apply _ _ _ _ _ j

/-- At the first grid step: the rows stored start from the zero state, with the tables just made. -/
theorem rows_A (h0 : t.val % 16 = 0) (h1 : t.val % 2 = 0) :
    (outsAt0 m c t.val t.isLt).1 = rowsBlock (iblk m c 0 t) (iblk m c 1 t) (iblk m c 2 t) (iblk m c 3 t) (iblk m c 4 t)
      (k0_pay3 (F := Ideal) (iblk m c 0 t (ix1 1)))
      (k0_pay4 (F := Ideal) (iblk m c 0 t (ix1 1)))
      (k0_pay6 (F := Ideal) (k0_pay5 (F := Ideal))) := by
  rw [Gen.outsAt0_A m c t h0 h1]
  frame_out
  simp (disch := decide) only [View.readCov_fill]
  rw [ld_scal0, ld_scal1, ld_scal2, ld_left, ld_right, ld_rows _ 0 0 rfl, ld_rows _ 512 1 rfl,
    ld_rows _ 1024 2 rfl, ld_rows _ 1536 3 rfl]
  exact rows_canon _ _ _ _ _ _ _ _

/-- The first grid step leaves the mask it makes. -/
theorem mask_A (h0 : t.val % 16 = 0) (h1 : t.val % 2 = 0) :
    (outsAt0 m c t.val t.isLt).2.2.1 = k0_pay3 (F := Ideal) (iblk m c 0 t (ix1 1)) := by
  rw [Gen.outsAt0_A m c t h0 h1]
  frame_out
  rw [ld_scal1]

/-- The first grid step leaves the table of powers it makes. -/
theorem pow_A (h0 : t.val % 16 = 0) (h1 : t.val % 2 = 0) :
    (outsAt0 m c t.val t.isLt).2.2.2 = k0_pay4 (F := Ideal) (iblk m c 0 t (ix1 1)) := by
  rw [Gen.outsAt0_A m c t h0 h1]
  frame_out
  rw [ld_scal1]

/-- A later grid step leaves both tables as it finds them. -/
theorem tables_later (h0 : ¬t.val % 16 = 0) :
    (outsAt0 m c t.val t.isLt).2.2
      = (outsAt0 m c (t.val - 1) (Nat.lt_of_le_of_lt (Nat.sub_le _ _) t.isLt)).2.2 := by
  by_cases h1 : t.val % 2 = 0
  · rw [Gen.outsAt0_C m c t h0 h1]; rfl
  · rw [Gen.outsAt0_B m c t h0 h1]; rfl

end Cert.Gla
-- ==== Proof.Spec.lean ====
module

public import proofs.«01_k».proof.Proof.Chunk
public import Idealize.ShloMosaic.Lib.IdealHost

@[expose] public section

set_option maxRecDepth 16384

/-! # The quantities of the problem, over the reals

The projections, the gate and the decay as functions of the arguments, with the facts that make them real
numbers: a projection because the inputs are finite, the gate and the decay because a sigmoid is always
between zero and one. -/

noncomputable section

namespace Cert.Gla

open Idealize.ShloMosaic Idealize.ShloMosaic.Tactic
open Cert.KernelIdeal
open Finset

/-! ## The constants -/

/-- The pattern of the float nearest 0.9 is a positive real. -/
theorem ofBits_low : ∃ r : ℝ, 0 < r ∧ Ideal.ofBits .f32 0x3F666666#32 = (r : EReal) := by
  refine ⟨15099494 * (2 : ℝ) ^ (-24 : ℤ), by positivity, ?_⟩
  simp [Ideal.ofBits, Ideal.ieee, -EReal.coe_mul]

/-- The pattern of the float nearest 0.099 is a positive real. -/
theorem ofBits_span : ∃ r : ℝ, 0 < r ∧ Ideal.ofBits .f32 0x3DCAC083#32 = (r : EReal) := by
  refine ⟨13287555 * (2 : ℝ) ^ (-27 : ℤ), by positivity, ?_⟩
  simp [Ideal.ofBits, Ideal.ieee, -EReal.coe_mul]

/-- The pattern `0x43FF8000` is 511. -/
theorem ofBits_511 : Ideal.ofBits .f32 0x43FF8000#32 = ((511 : ℝ) : EReal) := by
  simp [Ideal.ofBits, Ideal.ieee, -EReal.coe_mul]; norm_num

/-! ## The sigmoid -/

/-- The sigmoid. -/
def sigmoid (z : EReal) : EReal := Ideal.div 1 (1 + Ideal.exp (-z))

/-- The sigmoid is a nonnegative real everywhere, also at the infinities. -/
theorem sigmoid_real (z : EReal) : ∃ r : ℝ, 0 ≤ r ∧ sigmoid z = (r : EReal) := by
  have h : ∀ y : ℝ, 0 ≤ y → ∃ r : ℝ, 0 ≤ r ∧ Ideal.div 1 (1 + (y : EReal)) = (r : EReal) := by
    intro y hy
    refine ⟨1 / (1 + y), by positivity, ?_⟩
    rw [← EReal.coe_one, ← EReal.coe_add, Ideal.div_coe (by positivity), EReal.coe_one, one_mul]
  induction z using EReal.rec with
  | bot =>
    refine ⟨0, le_rfl, ?_⟩
    have : (1 : EReal) + ⊤ = ⊤ := by rw [← EReal.coe_one]; exact EReal.coe_add_top 1
    rw [sigmoid, EReal.neg_bot, show Ideal.exp ⊤ = ⊤ from rfl, this]
    simp [Ideal.div]
  | coe a => exact h (Real.exp (-a)) (Real.exp_pos _).le
  | top => exact h 0 le_rfl

/-! ## The quantities -/

variable (x : FVec Ideal S8x4096x1024 .f32) (W Wq Wk Wv : FVec Ideal S1024x64 .f32)
  (Wg : FVec Ideal S1024x1 .f32) (bg dp : FVec Ideal S1 .f32) (b : Fin 8)

/-- A projection of the input rows, as the programs compute it. -/
def projE (t : Fin 4096) (e : Fin 64) : EReal := ∑ j, x (ix3 b t j) * W (ix2 j e)

/-- The gate's argument, as the programs compute it. -/
def gateArg (t : Fin 4096) : EReal := ∑ j, x (ix3 b t j) * Wg (ix2 j 0) + bg (ix1 0)

/-- The decay, as the programs compute it. -/
def decayE : EReal :=
  Ideal.ofBits .f32 0x3F666666#32 + sigmoid (dp (ix1 0)) * Ideal.ofBits .f32 0x3DCAC083#32

/-- A projection of the input rows, as a real number at every step. -/
def proj (t : ℕ) (e : Fin 64) : ℝ := (projE x W b (Fin.ofNat 4096 t) e).toReal

/-- The gate, as a real number at every step. -/
def gate (t : ℕ) : ℝ := (sigmoid (gateArg x Wg bg b (Fin.ofNat 4096 t))).toReal

/-- The decay as a real number. -/
def decay : ℝ := (decayE dp).toReal

/-- Every entry of an array is a real number. -/
def Reals {s : Shape} (v : FVec Ideal s .f32) : Prop := ∀ i, ∃ r : ℝ, v i = (r : EReal)

/-- A projection of real inputs by real weights is real. -/
theorem projE_eq (hx : Reals x) (hW : Reals W) (t : Fin 4096) (e : Fin 64) :
    projE x W b t e = (proj x W b t e : EReal) := by
  have h : ∃ r : ℝ, projE x W b t e = (r : EReal) := by
    choose fx hx using hx
    choose fW hW using hW
    refine ⟨∑ j, fx (ix3 b t j) * fW (ix2 j e), ?_⟩
    simp only [projE, hx, hW, coe_sum, EReal.coe_mul]
  obtain ⟨r, hr⟩ := h
  rw [proj, Fin.ofNat_val_eq_self, hr, EReal.toReal_coe]

/-- The gate is real. -/
theorem gate_eq (t : Fin 4096) : sigmoid (gateArg x Wg bg b t) = (gate x Wg bg b t : EReal) := by
  obtain ⟨r, _, hr⟩ := sigmoid_real (gateArg x Wg bg b t)
  rw [gate, Fin.ofNat_val_eq_self, hr, EReal.toReal_coe]

/-- The decay is a positive real. -/
theorem decay_spec : 0 < decay dp ∧ decayE dp = (decay dp : EReal) := by
  obtain ⟨a, ha, ha'⟩ := ofBits_low
  obtain ⟨s, hs, hs'⟩ := ofBits_span
  obtain ⟨r, hr, hr'⟩ := sigmoid_real (dp (ix1 0))
  have h : decayE dp = ((a + r * s : ℝ) : EReal) := by
    rw [decayE, ha', hs', hr', EReal.coe_add, EReal.coe_mul]
  rw [decay, h, EReal.toReal_coe]
  exact ⟨by positivity, rfl⟩

/-- The exponential of a multiple of the decay's logarithm is a power of the decay. -/
theorem exp_log_decay {d : ℝ} (hd : 0 < d) (n : ℕ) :
    Ideal.exp (((n : ℝ) : EReal) * Ideal.log (d : EReal)) = ((d ^ n : ℝ) : EReal) := by
  rw [Ideal.log_coe, if_neg (not_le.mpr hd), ← EReal.coe_mul, Ideal.exp_coe, Real.exp_nat_mul, Real.exp_log hd]

end Cert.Gla
-- ==== Proof.Prefix.lean ====
module

public import proofs.«01_k».proof.Proof.Point
public import proofs.«01_k».proof.Proof.Spec
public import Idealize.ShloMosaic.Lib.StableHlo.ReadAt

@[expose] public section

set_option maxRecDepth 16384

/-! # What a grid step finds

The host part of the kernel gathers three scalars, concatenates the weights and lays the output bias out as
a row; the blocks a grid step finds are read here at an index, in terms of the arguments. -/

noncomputable section

namespace Cert.Gla

open Idealize.ShloMosaic Idealize.ShloMosaic.TcCoe Idealize.ShloMosaic.Tactic Idealize.SL.Sem
open Cert.KernelIdeal Cert.KernelIdeal.Gen
open Finset

variable (m : (ℓ : Loc nD τ sig) → Buf (Elt Ideal) ℓ) (c : Dev nD) (t : Fin cfg0.N)

/-! ## The arguments -/

/-- The input rows. -/
abbrev aX : FVec Ideal S8x4096x1024 .f32 := m ((c : Thread nD τ).loc main_arg0)
/-- The query weights. -/
abbrev aWq : FVec Ideal S1024x64 .f32 := m ((c : Thread nD τ).loc main_arg1)
/-- The key weights. -/
abbrev aWk : FVec Ideal S1024x64 .f32 := m ((c : Thread nD τ).loc main_arg2)
/-- The value weights. -/
abbrev aWv : FVec Ideal S1024x64 .f32 := m ((c : Thread nD τ).loc main_arg3)
/-- The output weights. -/
abbrev aWo : FVec Ideal S64x1024 .f32 := m ((c : Thread nD τ).loc main_arg4)
/-- The output bias. -/
abbrev aBo : FVec Ideal S1024 .f32 := m ((c : Thread nD τ).loc main_arg5)
/-- The gate's weights. -/
abbrev aWg : FVec Ideal S1024x1 .f32 := m ((c : Thread nD τ).loc main_arg6)
/-- The gate's bias. -/
abbrev aBg : FVec Ideal S1 .f32 := m ((c : Thread nD τ).loc main_arg7)
/-- The decay's parameter. -/
abbrev aDp : FVec Ideal S1 .f32 := m ((c : Thread nD τ).loc main_arg8)

/-! ## The host part -/

/-- The first scalar is the gate's bias. -/
theorem scal0 : (V m c main_v21 : FVec Ideal S3 .f32) (ix1 0) = aBg m c (ix1 0) := by
  unfold V; after_reads_at; after_reads_at

/-- The second scalar is the decay's logarithm. -/
theorem scal1 : (V m c main_v21 : FVec Ideal S3 .f32) (ix1 1) = Ideal.log (decay (aDp m c) : EReal) := by
  rw [← (decay_spec (aDp m c)).2]
  unfold V; after_reads_at; after_reads_at; rfl

/-- The third scalar is the decay squared nine times over, its 512th power. -/
theorem scal2 : (V m c main_v21 : FVec Ideal S3 .f32) (ix1 2) = ((decay (aDp m c) ^ 512 : ℝ) : EReal) := by
  have h := (decay_spec (aDp m c)).2
  unfold decayE sigmoid at h
  unfold V; after_reads_at; after_reads_at
  rw [h]
  simp only [← pow_two, ← pow_mul, EReal.coe_pow, Nat.reducePow, Nat.reduceMul]

/-- The first 64 columns of the joint weights are the value weights. -/
theorem wall_v (i : Fin 1024) (e : Fin 64) :
    (V m c main_v25 : FVec Ideal S1024x256 .f32) (ix2 i ⟨e, by omega⟩) = aWv m c (ix2 i e) := by
  unfold V; after_reads_at

/-- The next 64 columns are the key weights. -/
theorem wall_k (i : Fin 1024) (e : Fin 64) :
    (V m c main_v25 : FVec Ideal S1024x256 .f32) (ix2 i ⟨64 + e, by omega⟩) = aWk m c (ix2 i e) := by
  unfold V; after_reads_at

/-- The next 64 columns are the query weights. -/
theorem wall_q (i : Fin 1024) (e : Fin 64) :
    (V m c main_v25 : FVec Ideal S1024x256 .f32) (ix2 i ⟨128 + e, by omega⟩) = aWq m c (ix2 i e) := by
  unfold V; after_reads_at
  rw [dif_neg (by omega), dif_neg (by omega), dif_pos (by omega)]
  refine congrArg (aWq m c) (congrArg (ix2 i) (Fin.ext ?_)); dsimp only; omega

/-- The last 64 columns each repeat the gate's weights. -/
theorem wall_g (i : Fin 1024) (e : Fin 64) :
    (V m c main_v25 : FVec Ideal S1024x256 .f32) (ix2 i ⟨192 + e, by omega⟩) = aWg m c (ix2 i 0) := by
  unfold V; after_reads_at; after_reads_at
  rw [dif_neg (by omega), dif_neg (by omega), dif_neg (by omega)]

/-- The output bias as a row. -/
theorem bo2 (i : Fin 1024) : (V m c main_v26 : FVec Ideal S1x1024 .f32) (ix2 0 i) = aBo m c (ix1 i) := by
  unfold V; after_reads_at

/-! ## The blocks -/

/-- The number of grid steps. -/
theorem point_lt : t.val < 16 := lt_of_lt_of_eq t.isLt N_0

/-- Every grid step finds the scalars. -/
theorem iblk0 : iblk m c 0 t = V m c main_v21 := by
  have e : ∀ t : Fin grid0.N, win0_0.index t = ![0] := by decide +kernel
  funext y; unfold iblk; blk_simp
  refine congrArg (V m c main_v21) (funext fun a => Fin.ext ?_)
  match a with
  | 0 => blk_simp [e]

/-- Grid step `t` finds rows `2048 (t % 2)` on of sequence `t / 2`. -/
theorem iblk1 (r : Fin 2048) (j : Fin 1024) :
    iblk m c 1 t (ix3 0 r j)
      = aX m c (ix3 (Fin.ofNat 8 (t.val / 2)) (Fin.ofNat 4096 (2048 * (t.val % 2) + r)) j) := by
  have e : ∀ t : Fin grid0.N, win0_1.index t = ![t.val / 2, t.val % 2, 0] := by decide +kernel
  have ht := point_lt t
  unfold iblk; blk_simp
  rw [V_main_arg0]
  refine congrArg (aX m c) (funext fun a => Fin.ext ?_)
  match a with
  | 0 => blk_simp [e]; change t.val / 2 + 0 = t.val / 2 % 8; omega
  | 1 => blk_simp [e]; change t.val % 2 * 2048 + (r : ℕ) = (2048 * (t.val % 2) + (r : ℕ)) % 4096; omega
  | 2 => blk_simp [e]

/-- Every grid step finds the joint weights. -/
theorem iblk2 : iblk m c 2 t = V m c main_v25 := by
  have e : ∀ t : Fin grid0.N, win0_2.index t = ![0, 0] := by decide +kernel
  funext y; unfold iblk; blk_simp
  refine congrArg (V m c main_v25) (funext fun a => Fin.ext ?_)
  match a with
  | 0 => blk_simp [e]
  | 1 => blk_simp [e]

/-- Every grid step finds the output weights. -/
theorem iblk3 : iblk m c 3 t = aWo m c := by
  have e : ∀ t : Fin grid0.N, win0_3.index t = ![0, 0] := by decide +kernel
  funext y; unfold iblk; blk_simp
  rw [V_main_arg4]
  refine congrArg (aWo m c) (funext fun a => Fin.ext ?_)
  match a with
  | 0 => blk_simp [e]
  | 1 => blk_simp [e]

/-- Every grid step finds the row of output biases. -/
theorem iblk4 : iblk m c 4 t = V m c main_v26 := by
  have e : ∀ t : Fin grid0.N, win0_4.index t = ![0, 0] := by decide +kernel
  funext y; unfold iblk; blk_simp
  refine congrArg (V m c main_v26) (funext fun a => Fin.ext ?_)
  match a with
  | 0 => blk_simp [e]
  | 1 => blk_simp [e]

end Cert.Gla
-- ==== Proof.Reads.lean ====
module

public import proofs.«01_k».proof.Proof.Prefix

@[expose] public section

set_option maxRecDepth 16384

/-! # What a chunk reads, over the reals

The two tables hold powers of the decay, and the projections of a chunk are the problem's values, queries and
gated keys at the chunk's steps. -/

noncomputable section

namespace Cert.Gla

open Idealize.ShloMosaic Idealize.ShloMosaic.TcCoe Idealize.ShloMosaic.Tactic Idealize.SL.Sem
open Cert.KernelIdeal Cert.KernelIdeal.Gen

/-! ## The tables -/

/-- A small position as a float is the position. -/
theorem sitofp_pos {n : ℕ} (h : n < 512) :
    (FloatOps.sitofp FTy.f32 (BitVec.ofNat 32 n) : Ideal .f32) = ((n : ℝ) : EReal) := by
  have : (BitVec.ofNat 32 n).toInt = (n : ℤ) := by
    rw [BitVec.toInt_eq_toNat_of_lt] <;> rw [BitVec.toNat_ofNat, Nat.mod_eq_of_lt (by omega)]; omega
  change (((BitVec.ofNat 32 n).toInt : ℝ) : EReal) = _
  rw [this, Int.cast_natCast]

/-- A difference of two positions as a real. -/
theorem pos_sub {i s : ℕ} (h : s ≤ i) :
    ((i : ℝ) : EReal) - ((s : ℝ) : EReal) = (((i - s : ℕ) : ℝ) : EReal) := by
  rw [← EReal.coe_sub, Nat.cast_sub h]

variable {d : ℝ} (hd : 0 < d)
include hd

/-- The mask at row `i`, column `s` is the decay to the power `i - s`, and zero above the diagonal. -/
theorem mask_apply (i s : Fin 512) : k0_pay3 (F := Ideal) (Ideal.log (d : EReal)) (ix2 i s)
    = ((if (s : ℕ) ≤ i then d ^ ((i : ℕ) - s) else 0 : ℝ) : EReal) := by
  pointwise [k0_pay3]
  rw [sitofp_pos i.isLt, sitofp_pos s.isLt]
  by_cases h : (s : ℕ) ≤ i
  · rw [if_pos (by exact_mod_cast h), if_pos h, pos_sub h, exp_log_decay hd]
  · rw [if_neg (by exact_mod_cast h), if_neg h, EReal.coe_zero]

/-- The left half of the table of powers at row `i` is the decay to the power `i + 1`. -/
theorem left_apply (i : Fin 512) (a : Fin 64) :
    leftHalf (k0_pay4 (F := Ideal) (Ideal.log (d : EReal))) (ix2 i a) = ((d ^ ((i : ℕ) + 1) : ℝ) : EReal) := by
  have hc : IntOp.cmpi .slt (BitVec.ofNat 32 (a : ℕ)) 64#32 = 1#1 := by revert a; decide
  pointwise [leftHalf, k0_pay4]
  refine (if_pos hc).trans ?_
  rw [sitofp_pos i.isLt, ← EReal.coe_one, ← EReal.coe_add, ← exp_log_decay hd, Nat.cast_add, Nat.cast_one]

/-- The right half of the table of powers at row `i` is the decay to the power `511 - i`. -/
theorem right_apply (i : Fin 512) (a : Fin 64) :
    rightHalf (k0_pay4 (F := Ideal) (Ideal.log (d : EReal))) (ix2 i a) = ((d ^ (511 - (i : ℕ)) : ℝ) : EReal) := by
  have hc : IntOp.cmpi .slt (BitVec.ofNat 32 (64 + (a : ℕ))) 64#32 ≠ 1#1 := by revert a; decide
  pointwise [rightHalf, k0_pay4]
  refine (if_neg hc).trans ?_
  rw [sitofp_pos i.isLt, ofBits_511, show ((511 : ℝ) : EReal) = (((511 : ℕ) : ℝ) : EReal) by norm_num, pos_sub (by omega),
    exp_log_decay hd]

omit hd

/-! ## The zero state -/

/-- The state a sequence starts from is zero. -/
theorem zero_state (a e : Fin 64) : k0_pay6 (F := Ideal) (k0_pay5 (F := Ideal)) (ix2 a e) = 0 := by
  pointwise [k0_pay6, k0_pay5]

/-- A state block read back is the block without its unit axis. -/
theorem read_state (B : FVec Ideal S1x64x64 .f32) (a e : Fin 64) :
    k0_pay6 (F := Ideal) B (ix2 a e) = B (ix3 0 a e) := by
  pointwise [k0_pay6]

/-! ## The projections of a chunk -/

section
variable (bg : EReal) (x : FVec Ideal S1x512x1024 .f32) (w : FVec Ideal S1024x256 .f32) (i : Fin 512)

/-- The joint projection is a product of the chunk and the joint weights. -/
theorem pay7_apply (e : Fin 256) : k0_pay7 (F := Ideal) x w (ix2 i e) = ∑ j, x (ix3 0 i j) * w (ix2 j e) := by
  pointwise [k0_pay7]

/-- The values are the first 64 columns of the joint projection. -/
theorem pay8_apply (e : Fin 64) :
    k0_pay8 (F := Ideal) x w (ix2 i e) = k0_pay7 (F := Ideal) x w (ix2 i ⟨e, by omega⟩) := by
  pointwise [k0_pay8]

/-- The queries are the third 64 columns of the joint projection. -/
theorem pay9_apply (e : Fin 64) :
    k0_pay9 (F := Ideal) x w (ix2 i e) = k0_pay7 (F := Ideal) x w (ix2 i ⟨128 + e, by omega⟩) := by
  pointwise [k0_pay9]

/-- The gated keys are the second 64 columns, times the square of the sigmoid of the fourth 64. -/
theorem pay10_apply (a : Fin 64) :
    k0_pay10 (F := Ideal) bg x w (ix2 i a) = k0_pay7 (F := Ideal) x w (ix2 i ⟨64 + a, by omega⟩)
      * (sigmoid (k0_pay7 (F := Ideal) x w (ix2 i ⟨192 + a, by omega⟩) + bg)
        * sigmoid (k0_pay7 (F := Ideal) x w (ix2 i ⟨192 + a, by omega⟩) + bg)) := by
  pointwise [k0_pay10]; rfl

end

variable (m : (ℓ : Loc nD τ sig) → Buf (Elt Ideal) ℓ) (c : Dev nD) (t : Fin cfg0.N)

/-- The sequence a grid step works on. -/
abbrev seqOf : Fin 8 := Fin.ofNat 8 (t.val / 2)

/-- The step at which chunk `n` of grid step `t` starts. -/
abbrev startOf (n : ℕ) : ℕ := 2048 * (t.val % 2) + 512 * n

/-- Row `i` of chunk `n` is the input at the chunk's step `i`. -/
theorem chunk_row {n : ℕ} (hn : n < 4) (i : Fin 512) (j : Fin 1024) :
    chunkOf (iblk m c 1 t) n (ix3 0 i j)
      = aX m c (ix3 (seqOf t) (Fin.ofNat 4096 (startOf t n + i)) j) := by
  unfold chunkOf
  have hr : (Fin.ofNat 2048 (512 * n + (i : ℕ)) : ℕ) = 512 * n + i := Nat.mod_eq_of_lt (by omega)
  refine (iblk1 m c t (Fin.ofNat 2048 (512 * n + (i : ℕ))) j).trans ?_
  rw [hr, ← Nat.add_assoc]

/-- A column of the joint projection is the projection by the weights in that column. -/
theorem chunk_proj {n : ℕ} (hn : n < 4) (i : Fin 512) (e : Fin 256) (W : FVec Ideal S1024x64 .f32) (e' : Fin 64)
    (hW : ∀ j, (V m c main_v25 : FVec Ideal S1024x256 .f32) (ix2 j e) = W (ix2 j e')) :
    k0_pay7 (F := Ideal) (chunkOf (iblk m c 1 t) n) (iblk m c 2 t) (ix2 i e)
      = projE (aX m c) W (seqOf t) (Fin.ofNat 4096 (startOf t n + i)) e' := by
  rw [pay7_apply, projE]
  refine Finset.sum_congr rfl fun j _ => ?_
  rw [chunk_row m c t hn, iblk2 m c t, hW]

/-- A gate column of the joint projection, with the bias, is the gate's argument. -/
theorem chunk_gate {n : ℕ} (hn : n < 4) (i : Fin 512) (e : Fin 64) :
    k0_pay7 (F := Ideal) (chunkOf (iblk m c 1 t) n) (iblk m c 2 t) (ix2 i ⟨192 + e, by omega⟩)
        + (iblk m c 0 t : FVec Ideal S3 .f32) (ix1 0)
      = gateArg (aX m c) (aWg m c) (aBg m c) (seqOf t) (Fin.ofNat 4096 (startOf t n + i)) := by
  rw [pay7_apply, gateArg, iblk0 m c t, scal0]
  refine congrArg (· + _) (Finset.sum_congr rfl fun j _ => ?_)
  rw [chunk_row m c t hn, iblk2 m c t, wall_g]

/-! ## The problem's quantities of a sequence -/

/-- The queries of sequence `b`. -/
abbrev qs (b : Fin 8) : ℕ → Fin 64 → ℝ := proj (aX m c) (aWq m c) b
/-- The keys of sequence `b`. -/
abbrev ks (b : Fin 8) : ℕ → Fin 64 → ℝ := proj (aX m c) (aWk m c) b
/-- The values of sequence `b`. -/
abbrev vs (b : Fin 8) : ℕ → Fin 64 → ℝ := proj (aX m c) (aWv m c) b
/-- The gates of sequence `b`. -/
abbrev gs (b : Fin 8) : ℕ → ℝ := gate (aX m c) (aWg m c) (aBg m c) b

/-- The arguments that have to be real: the inputs and the three projections' weights. -/
structure RealArgs : Prop where
  /-- The inputs. -/
  x : Reals (aX m c)
  /-- The query weights. -/
  q : Reals (aWq m c)
  /-- The key weights. -/
  k : Reals (aWk m c)
  /-- The value weights. -/
  v : Reals (aWv m c)

variable {m c} (H : RealArgs m c) {n : ℕ} (hn : n < 4) (i : Fin 512)
include H hn

/-- A step of a chunk is below 4096. -/
theorem step_val : ((Fin.ofNat 4096 (startOf t n + i) : Fin 4096) : ℕ) = startOf t n + i :=
  Nat.mod_eq_of_lt (by have := i.isLt; have := Nat.mod_lt t.val (show 2 > 0 by decide); unfold startOf; omega)

/-- The values of a chunk. -/
theorem chunk_v (e : Fin 64) : k0_pay8 (F := Ideal) (chunkOf (iblk m c 1 t) n) (iblk m c 2 t) (ix2 i e)
    = (vs m c (seqOf t) (startOf t n + i) e : EReal) := by
  rw [pay8_apply, chunk_proj m c t hn i _ (aWv m c) e fun j => wall_v m c j e, projE_eq _ _ _ H.x H.v,
    step_val t H hn i]

/-- The queries of a chunk. -/
theorem chunk_q (e : Fin 64) : k0_pay9 (F := Ideal) (chunkOf (iblk m c 1 t) n) (iblk m c 2 t) (ix2 i e)
    = (qs m c (seqOf t) (startOf t n + i) e : EReal) := by
  rw [pay9_apply, chunk_proj m c t hn i _ (aWq m c) e fun j => wall_q m c j e, projE_eq _ _ _ H.x H.q,
    step_val t H hn i]

/-- The gated keys of a chunk. -/
theorem chunk_k (a : Fin 64) :
    k0_pay10 (F := Ideal) ((iblk m c 0 t : FVec Ideal S3 .f32) (ix1 0)) (chunkOf (iblk m c 1 t) n) (iblk m c 2 t)
        (ix2 i a)
      = ((ks m c (seqOf t) (startOf t n + i) a
          * (gs m c (seqOf t) (startOf t n + i) * gs m c (seqOf t) (startOf t n + i)) : ℝ) : EReal) := by
  rw [pay10_apply, chunk_gate m c t hn, chunk_proj m c t hn i _ (aWk m c) a fun j => wall_k m c j a,
    projE_eq _ _ _ H.x H.k, gate_eq, step_val t H hn i, EReal.coe_mul, EReal.coe_mul]

end Cert.Gla
-- ==== Proof.Fold.lean ====
module

public import proofs.«01_k».proof.Proof.Reads

@[expose] public section

set_option maxRecDepth 16384

/-! # The grid, step by step

Two grid steps make one sequence: the first starts from the zero state, the second from the state the first
left.  The tables are those of the first grid step all along.  So the two output blocks after every grid step
are the recurrence's states and read-outs. -/

noncomputable section

namespace Cert.Gla

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (c : Dev nD) (t : Fin cfg0.N)

/-- The state of sequence `b` before step `n`. -/
abbrev st (b : Fin 8) : ℕ → Fin 64 → Fin 64 → ℝ :=
  state (decay (aDp m c)) (gs m c b) (ks m c b) (vs m c b)

/-- The read-out of sequence `b` at step `n`. -/
abbrev ro (b : Fin 8) : ℕ → Fin 64 → ℝ :=
  readout (decay (aDp m c)) (gs m c b) (qs m c b) (ks m c b) (vs m c b)

/-- The mask every grid step works with. -/
abbrev theMask : FVec Ideal S512x512 .f32 := k0_pay3 (F := Ideal) (Ideal.log (decay (aDp m c) : EReal))

/-- The table of powers every grid step works with. -/
abbrev thePow : FVec Ideal S512x128 .f32 := k0_pay4 (F := Ideal) (Ideal.log (decay (aDp m c) : EReal))

/-! ## The tables -/

/-- After every grid step the scratches hold the two tables. -/
theorem tables (n : ℕ) (h : n < cfg0.N) :
    (outsAt0 m c n h).2.2.1 = theMask m c ∧ (outsAt0 m c n h).2.2.2 = thePow m c := by
  induction n with
  | zero =>
    have hs : (iblk m c 0 ⟨0, h⟩ : FVec Ideal S3 .f32) (ix1 1) = Ideal.log (decay (aDp m c) : EReal) := by
      rw [iblk0, scal1]
    refine ⟨(mask_A m c ⟨0, h⟩ rfl rfl).trans ?_, (pow_A m c ⟨0, h⟩ rfl rfl).trans ?_⟩ <;> rw [hs]
  | succ n ih =>
    have hlt : n + 1 < 16 := point_lt ⟨n + 1, h⟩
    have h0 : ¬(⟨n + 1, h⟩ : Fin cfg0.N).val % 16 = 0 := by
      rw [Nat.mod_eq_of_lt hlt]; exact Nat.succ_ne_zero n
    rw [tables_later m c ⟨n + 1, h⟩ h0]
    exact ih _

/-! ## Four chunks of one grid step -/

section
variable {m c} (H : RealArgs m c) {S : FVec Ideal S64x64 .f32}
  (hS : ∀ a e, S (ix2 a e) = (st m c (seqOf t) (startOf t 0) a e : EReal))
include H hS

/-- The state after `n` chunks of a grid step that starts from the recurrence's state is the recurrence's. -/
theorem stateAt_eq (n : ℕ) (hn : n ≤ 4) (a e : Fin 64) :
    stateAt (iblk m c 0 t) (iblk m c 1 t) (iblk m c 2 t) (thePow m c) S n (ix2 a e)
      = (st m c (seqOf t) (startOf t n) a e : EReal) := by
  induction n generalizing a e with
  | zero => exact hS a e
  | succ n ih =>
    have hD : (iblk m c 0 t : FVec Ideal S3 .f32) (ix1 2) = ((decay (aDp m c) ^ 512 : ℝ) : EReal) := by
      rw [iblk0, scal2]
    exact chunkState_apply (ih (by omega)) (chunk_v t H (by omega)) (chunk_k t H (by omega)) hD
      (right_apply (decay_spec _).1) a e

/-- The rows of chunk `n` are the read-outs at its steps, projected. -/
theorem rowsAt_eq (n : ℕ) (hn : n < 4) (i : Fin 512) (j : Fin 1024) :
    rowsAt (iblk m c 0 t) (iblk m c 1 t) (iblk m c 2 t) (iblk m c 3 t) (iblk m c 4 t) (theMask m c) (thePow m c) S
        n (ix3 0 i j)
      = ∑ e, (ro m c (seqOf t) (startOf t n + i) e : EReal) * aWo m c (ix2 e j) + aBo m c (ix1 j) := by
  refine (chunkRows_apply (stateAt_eq t H hS n hn.le) (chunk_v t H hn) (chunk_q t H hn) (chunk_k t H hn)
    (mask_apply (decay_spec _).1) (left_apply (decay_spec _).1) i j).trans ?_
  rw [iblk3, iblk4, bo2]

/-- The state block a grid step leaves. -/
theorem stateBlock_eq (a e : Fin 64) :
    stateBlock (iblk m c 0 t) (iblk m c 1 t) (iblk m c 2 t) (thePow m c) S (ix3 0 a e)
      = (st m c (seqOf t) (2048 * (t.val % 2) + 2048) a e : EReal) :=
  stateAt_eq t H hS 4 le_rfl a e

/-- The block of rows a grid step stores. -/
theorem rowsBlock_eq (r : Fin 2048) (j : Fin 1024) :
    rowsBlock (iblk m c 0 t) (iblk m c 1 t) (iblk m c 2 t) (iblk m c 3 t) (iblk m c 4 t) (theMask m c) (thePow m c) S
        (ix3 0 r j)
      = ∑ e, (ro m c (seqOf t) (2048 * (t.val % 2) + r) e : EReal) * aWo m c (ix2 e j) + aBo m c (ix1 j) := by
  have h := rowsAt_eq t H hS ((r : ℕ) / 512) (by omega) (Fin.ofNat 512 ((r : ℕ) % 512)) j
  have hv : ((Fin.ofNat 512 ((r : ℕ) % 512) : Fin 512) : ℕ) = (r : ℕ) % 512 := Nat.mod_mod _ _
  have hr : startOf t ((r : ℕ) / 512) + (r : ℕ) % 512 = 2048 * (t.val % 2) + r := by unfold startOf; omega
  rw [hv, hr] at h
  exact h

end

/-! ## Every grid step -/

variable {m c} (H : RealArgs m c)
include H

/-- The zero state is the recurrence's at the first step of a sequence. -/
theorem start_even (h1 : t.val % 2 = 0) (a e : Fin 64) :
    k0_pay6 (F := Ideal) (k0_pay5 (F := Ideal)) (ix2 a e) = (st m c (seqOf t) (startOf t 0) a e : EReal) := by
  rw [zero_state, startOf, h1]; rfl

/-- What the two output blocks hold after the first grid step of a sequence. -/
theorem even_step (h1 : t.val % 2 = 0) :
    (outsAt0 m c t.val t.isLt).2.1 = stateBlock (iblk m c 0 t) (iblk m c 1 t) (iblk m c 2 t) (thePow m c)
        (k0_pay6 (F := Ideal) (k0_pay5 (F := Ideal)))
      ∧ (outsAt0 m c t.val t.isLt).1 = rowsBlock (iblk m c 0 t) (iblk m c 1 t) (iblk m c 2 t) (iblk m c 3 t)
        (iblk m c 4 t) (theMask m c) (thePow m c) (k0_pay6 (F := Ideal) (k0_pay5 (F := Ideal))) := by
  by_cases h0 : t.val % 16 = 0
  · have hs : (iblk m c 0 t : FVec Ideal S3 .f32) (ix1 1) = Ideal.log (decay (aDp m c) : EReal) := by
      rw [iblk0, scal1]
    refine ⟨(state_A m c t h0 h1).trans ?_, (rows_A m c t h0 h1).trans ?_⟩ <;> rw [hs]
  · have hT := tables m c (t.val - 1) (Nat.lt_of_le_of_lt (Nat.sub_le _ _) t.isLt)
    refine ⟨(state_C m c t h0 h1).trans ?_, (rows_C m c t h0 h1).trans ?_⟩ <;> simp only [hT.1, hT.2]

/-- Every grid step starts from a state that is the recurrence's. -/
theorem each_step : ∃ S : FVec Ideal S64x64 .f32,
    (∀ a e, S (ix2 a e) = (st m c (seqOf t) (startOf t 0) a e : EReal))
      ∧ (outsAt0 m c t.val t.isLt).2.1
        = stateBlock (iblk m c 0 t) (iblk m c 1 t) (iblk m c 2 t) (thePow m c) S
      ∧ (outsAt0 m c t.val t.isLt).1 = rowsBlock (iblk m c 0 t) (iblk m c 1 t) (iblk m c 2 t) (iblk m c 3 t)
        (iblk m c 4 t) (theMask m c) (thePow m c) S := by
  by_cases h1 : t.val % 2 = 0
  · exact ⟨_, start_even t H h1, even_step t H h1⟩
  · have h0 : ¬t.val % 16 = 0 := by omega
    have hlt := Nat.lt_of_le_of_lt (Nat.sub_le t.val 1) t.isLt
    have hT := tables m c (t.val - 1) hlt
    have he : (⟨t.val - 1, hlt⟩ : Fin cfg0.N).val % 2 = 0 := by change (t.val - 1) % 2 = 0; omega
    refine ⟨k0_pay6 (F := Ideal) (outsAt0 m c (t.val - 1) hlt).2.1, fun a e => ?_,
      (state_B m c t h0 h1).trans ?_, (rows_B m c t h0 h1).trans ?_⟩
    · rw [read_state, (even_step ⟨t.val - 1, hlt⟩ H he).1,
        stateBlock_eq ⟨t.val - 1, hlt⟩ H (start_even ⟨t.val - 1, hlt⟩ H he)]
      have hq : seqOf ⟨t.val - 1, hlt⟩ = seqOf t := by
        unfold seqOf; refine congrArg (Fin.ofNat 8) ?_; change (t.val - 1) / 2 = t.val / 2; omega
      have hp : 2048 * ((⟨t.val - 1, hlt⟩ : Fin cfg0.N).val % 2) + 2048 = startOf t 0 := by
        rw [he]; unfold startOf; omega
      rw [hq, hp]
    · simp only [hT.2]
    · simp only [hT.1, hT.2]

/-- The state block after a grid step is the recurrence's state after the step's rows. -/
theorem state_after (a e : Fin 64) : (outsAt0 m c t.val t.isLt).2.1 (ix3 0 a e)
    = (st m c (seqOf t) (2048 * (t.val % 2) + 2048) a e : EReal) := by
  obtain ⟨S, hS, h, _⟩ := each_step t H
  rw [h, stateBlock_eq t H hS]

/-- The rows stored by a grid step are the read-outs at its steps, projected. -/
theorem rows_after (r : Fin 2048) (j : Fin 1024) : (outsAt0 m c t.val t.isLt).1 (ix3 0 r j)
    = ∑ e, (ro m c (seqOf t) (2048 * (t.val % 2) + r) e : EReal) * aWo m c (ix2 e j) + aBo m c (ix1 j) := by
  obtain ⟨S, hS, _, h⟩ := each_step t H
  rw [h, rowsBlock_eq t H hS]

end Cert.Gla
-- ==== Proof.Arrays.lean ====
module

public import proofs.«01_k».proof.Proof.Fold
public import proofs.«01_k».proof.Proof.Gen.KernelIdeal.Value

@[expose] public section

set_option maxRecDepth 16384

/-! # The kernel's two arrays

Every grid step's block of rows goes to its place in the first result; the state block goes to the second when a
sequence ends.  So the first result is the read-outs projected, and the second the last states. -/

noncomputable section

namespace Cert.Gla

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (c : Dev nD)

/-- The first result: the read-outs projected, plus the bias. -/
def rowsOut : FVec Ideal S8x4096x1024 .f32 := fun j =>
  ∑ e, (ro m c (j 0) (j 1 : ℕ) e : EReal) * aWo m c (ix2 e (j 2)) + aBo m c (ix1 (j 2))

/-- The second result: the states after the last step. -/
def stateOut : FVec Ideal S8x64x64 .f32 := fun j => (st m c (j 0) 4096 (j 1) (j 2) : EReal)

variable {m c} (H : RealArgs m c)
include H

/-- The first result's array after the run. -/
theorem rows_final : (dats m 0 c).arrAt 5 cfg0.N = rowsOut m c := by
  have e : ∀ t : Fin grid0.N, win0_5.index t = ![t.val / 2, t.val % 2, 0] := by decide +kernel
  refine (dats m 0 c).arrAt_eq_of_covers 5 _ (by decide +kernel) fun t hf y => ?_
  blk_simp
  rw [after0_5]
  have ht := point_lt t
  have hr : (y 1 : ℕ) < 2048 := (y 1).isLt
  have hy : y = ix3 0 (y 1) (y 2) := funext fun a => match a with
    | 0 => Subsingleton.elim (α := Fin 1) _ _
    | 1 => rfl
    | 2 => rfl
  have hj : (win0_5.blk t).view.emb y
      = ix3 (seqOf t) (Fin.ofNat 4096 (2048 * (t.val % 2) + (y 1 : ℕ))) (y 2) := funext fun a => Fin.ext (by
    match a with
    | 0 => blk_simp [e]; change t.val / 2 = t.val / 2 % 8; omega
    | 1 => blk_simp [e]; change t.val % 2 * 2048 + (y 1 : ℕ) = (2048 * (t.val % 2) + (y 1 : ℕ)) % 4096; omega
    | 2 => blk_simp [e])
  have hv : ((Fin.ofNat 4096 (2048 * (t.val % 2) + (y 1 : ℕ)) : Fin 4096) : ℕ) = 2048 * (t.val % 2) + (y 1 : ℕ) :=
    Nat.mod_eq_of_lt (by omega)
  rw [hj]
  refine (congrArg _ hy).trans ((rows_after t H (y 1) (y 2)).trans ?_)
  change _ = ∑ e, (ro m c (seqOf t) ((Fin.ofNat 4096 (2048 * (t.val % 2) + (y 1 : ℕ)) : Fin 4096) : ℕ) e : EReal) * aWo m c (ix2 e (y 2)) + aBo m c (ix1 (y 2))
  rw [hv]

/-- The second result's array after the run. -/
theorem state_final : (dats m 0 c).arrAt 6 cfg0.N = stateOut m c := by
  have e : ∀ t : Fin grid0.N, win0_6.index t = ![t.val / 2, 0, 0] := by decide +kernel
  refine (dats m 0 c).arrAt_eq_of_covers 6 _ (by decide +kernel) fun t hf y => ?_
  have ho : t.val % 2 = 1 := by
    have : ∀ t : Fin grid0.N, win0_6.flush t = true → t.val % 2 = 1 := by decide +kernel
    exact this t hf
  blk_simp
  rw [after0_6]
  have ht := point_lt t
  have hy : y = ix3 0 (y 1) (y 2) := funext fun a => match a with
    | 0 => Subsingleton.elim (α := Fin 1) _ _
    | 1 => rfl
    | 2 => rfl
  have hj : (win0_6.blk t).view.emb y = ix3 (seqOf t) (y 1) (y 2) := funext fun a => Fin.ext (by
    match a with
    | 0 => blk_simp [e]; change t.val / 2 = t.val / 2 % 8; omega
    | 1 => blk_simp [e]
    | 2 => blk_simp [e])
  rw [hj]
  refine (congrArg _ hy).trans ((state_after t H (y 1) (y 2)).trans ?_)
  rw [ho]; rfl

end Cert.Gla
-- ==== Proof.RefStep.lean ====
module

public import proofs.«01_k».proof.Proof.Spec
public import proofs.«01_k».proof.Proof.Gen.ReferenceIdeal.Step

@[expose] public section

set_option maxRecDepth 16384

/-! # One trip of the reference's loop

The reference takes one step of the recurrence per trip, for all eight sequences at once.  This module reads one
trip at an index and proves that, started from zero, the loop's state is the recurrence's. -/

noncomputable section

namespace Cert.Gla

open Idealize.ShloMosaic Idealize.ShloMosaic.Tactic
open Cert.ReferenceIdeal Cert.ReferenceIdeal.Gen Cert.ReferenceIdeal.Step

/-! ## One trip at an index -/

section
variable (s : Step.State Ideal) {j : ℕ} (hj : j < 4096)

/-- A loop counter read as a signed number. -/
theorem counter_toInt {j : ℕ} (hj : j < 4096) : (BitVec.ofNat 32 j).toInt = (j : ℤ) := by
  rw [BitVec.toInt_eq_toNat_of_lt] <;> rw [BitVec.toNat_ofNat, Nat.mod_eq_of_lt (by omega)]; omega

/-- The state after a trip. -/
theorem trip_state (b : Fin 8) (a e : Fin 64) : b29 j s (ix3 b a e)
    = s.main_v30_4 (ix1 0) * s.main_v30_6 (ix3 b a e)
      + b7 j s (ix2 b a) * b14 j s (ix1 b) * (b11 j s (ix2 b e) * b14 j s (ix1 b)) := by
  pointwise [b29, b28, b27, b26, b25, b24, b23, b22, b21, b20, b19, b18, b17, b16, b15]

/-- The row a trip reads out. -/
theorem trip_row (b : Fin 8) (e : Fin 64) :
    b31 j s (ix3 0 b e) = ∑ a, b3 j s (ix2 b a) * b29 j s (ix3 b a e) := by
  pointwise [b31, b30]

include hj

/-- Where a trip's slice of a projection starts on each axis: at the trip's number, at zero and at zero. -/
theorem start3 (h : S1x8x64.rank = S4096x8x64.rank) (o : Fin 3 → ℤ) (h0 : o 0 = (BitVec.ofNat 32 j).toInt)
    (h1 : o 1 = 0) (h2 : o 2 = 0) :
    Host.clampedStart S4096x8x64 S1x8x64 h o 0 = j ∧ Host.clampedStart S4096x8x64 S1x8x64 h o 1 = 0
      ∧ Host.clampedStart S4096x8x64 S1x8x64 h o 2 = 0 := by
  refine ⟨Host.clampedStart_of_le h o 0 j (h0.trans (counter_toInt hj)) ?_,
    Host.clampedStart_of_le h o 1 0 h1 ?_, Host.clampedStart_of_le h o 2 0 h2 ?_⟩
  · change j + 1 ≤ 4096; omega
  · change 0 + 8 ≤ 8; omega
  · change 0 + 64 ≤ 64; omega

/-- A slice of one row of a projection, read at an index. -/
theorem slice3 (x : FVec Ideal S4096x8x64 .f32) (o : Fin 3 → ℤ) (h0 : o 0 = (BitVec.ofNat 32 j).toInt)
    (h1 : o 1 = 0) (h2 : o 2 = 0) (b : Fin 8) (a : Fin 64) :
    shapeCast S8x64 (Host.dynamicSlice S1x8x64 x o sliceFits_S4096x8x64_S1x8x64) shapeCasts_S1x8x64_S8x64 (ix2 b a)
      = x (ix3 ⟨j, hj⟩ b a) := by
  obtain ⟨e0, e1, e2⟩ := start3 hj sliceFits_S4096x8x64_S1x8x64.1 o h0 h1 h2
  pointwise
  refine congrArg x (funext fun k => Fin.ext ?_)
  match k with
  | 0 => exact e0
  | 1 => exact (congrArg (· + (b : ℕ)) e1).trans (Nat.zero_add _)
  | 2 => exact (congrArg (· + (a : ℕ)) e2).trans (Nat.zero_add _)

/-- The queries of a trip. -/
theorem trip_q (b : Fin 8) (a : Fin 64) : b3 j s (ix2 b a) = s.main_v30_0 (ix3 ⟨j, hj⟩ b a) :=
  slice3 hj _ _ rfl rfl rfl b a

/-- The keys of a trip. -/
theorem trip_k (b : Fin 8) (a : Fin 64) : b7 j s (ix2 b a) = s.main_v30_1 (ix3 ⟨j, hj⟩ b a) :=
  slice3 hj _ _ rfl rfl rfl b a

/-- The values of a trip. -/
theorem trip_v (b : Fin 8) (a : Fin 64) : b11 j s (ix2 b a) = s.main_v30_2 (ix3 ⟨j, hj⟩ b a) :=
  slice3 hj _ _ rfl rfl rfl b a

/-- A slice of one row of the gates, read at an index. -/
theorem slice2 (x : FVec Ideal S4096x8 .f32) (o : Fin 2 → ℤ) (h0 : o 0 = (BitVec.ofNat 32 j).toInt)
    (h1 : o 1 = 0) (b : Fin 8) :
    shapeCast S8 (Host.dynamicSlice S1x8 x o sliceFits_S4096x8_S1x8) shapeCasts_S1x8_S8 (ix1 b)
      = x (ix2 ⟨j, hj⟩ b) := by
  have e0 := Host.clampedStart_of_le sliceFits_S4096x8_S1x8.1 o 0 j (h0.trans (counter_toInt hj))
    (by change j + 1 ≤ 4096; omega)
  have e1 := Host.clampedStart_of_le sliceFits_S4096x8_S1x8.1 o 1 0 h1 (by change 0 + 8 ≤ 8; omega)
  pointwise
  refine congrArg x (funext fun k => Fin.ext ?_)
  match k with
  | 0 => exact e0
  | 1 => exact (congrArg (· + (b : ℕ)) e1).trans (Nat.zero_add _)

/-- The gates of a trip. -/
theorem trip_g (b : Fin 8) : b14 j s (ix1 b) = s.main_v30_3 (ix2 ⟨j, hj⟩ b) :=
  slice2 hj _ _ rfl rfl b

/-- The read-outs after a trip: the trip's row is the new one, the others are kept. -/
theorem trip_out (t : Fin 4096) (b : Fin 8) (e : Fin 64) :
    b34 j s (ix3 t b e) = if (t : ℕ) = j then b31 j s (ix3 0 b e) else s.main_v30_7 (ix3 t b e) := by
  obtain ⟨e0, e1, e2⟩ := start3 hj updateFits_S4096x8x64_S1x8x64.1
    (fun k => (((![(constantI S_ 32 (BitVec.ofNat 32 j) : (⟨S_, .i32⟩ : BufTy).Contents (Elt Ideal)), (b32 j s),
      (b33 j s)] : Fin 3 → (⟨S_, .i32⟩ : BufTy).Contents (Elt Ideal))) k (Shape.Idx.first h_S_)).toInt) rfl rfl rfl
  pointwise [b34]
  simp only [e0, e1, e2, Nat.zero_le, and_true, Nat.sub_zero]
  by_cases h : (t : ℕ) = j
  · rw [dif_pos ⟨h.ge, by omega⟩, if_pos h]
    refine congrArg (b31 j s) (funext fun k => Fin.ext ?_)
    match k with
    | 0 => change (t : ℕ) - j = 0; omega
    | 1 => rfl
    | 2 => rfl
  · rw [dif_neg (by omega), if_neg h]

end

/-! ## What the loop starts from, and the result made from its end -/

section
variable (x : FVec Ideal S8x4096x1024 .f32) (Wq Wk Wv : FVec Ideal S1024x64 .f32)
  (Wg : FVec Ideal S1024x1 .f32) (bg dp : FVec Ideal S1 .f32) (b : Fin 8) (t : Fin 4096) (a e : Fin 64)

/-- The queries the loop reads. -/
theorem init_q : (init (F := Ideal) x Wq Wk Wv Wg bg dp).main_v30_0 (ix3 t b a) = projE x Wq b t a := by
  pointwise [init, A_main_v25, A_main_v10, projE]

/-- The keys the loop reads. -/
theorem init_k : (init (F := Ideal) x Wq Wk Wv Wg bg dp).main_v30_1 (ix3 t b a) = projE x Wk b t a := by
  pointwise [init, A_main_v26, A_main_v11, projE]

/-- The values the loop reads. -/
theorem init_v : (init (F := Ideal) x Wq Wk Wv Wg bg dp).main_v30_2 (ix3 t b a) = projE x Wv b t a := by
  pointwise [init, A_main_v27, A_main_v12, projE]

/-- The gates the loop reads. -/
theorem init_g : (init (F := Ideal) x Wq Wk Wv Wg bg dp).main_v30_3 (ix2 t b) = sigmoid (gateArg x Wg bg b t) := by
  pointwise [init, A_main_v28, A_main_v23, A_main_v22, A_main_v20, A_main_v18, A_main_v17, A_main_v16, A_main_v15,
    A_main_v14, A_main_v13, K_main_v21, K_main_v19, K_main_cst_4, K_main_cst_3, gateArg, sigmoid]

/-- The decay the loop reads. -/
theorem init_d : (init (F := Ideal) x Wq Wk Wv Wg bg dp).main_v30_4 (ix1 0) = decayE dp := by
  pointwise [init, A_main_v9, A_main_v7, A_main_v5, A_main_v3, A_main_v1, A_main_v0, K_main_v2, K_main_v4, K_main_v6,
    K_main_v8, K_main_cst, K_main_cst_0, K_main_cst_1, K_main_cst_2, decayE, sigmoid]

/-- The state the loop starts from is zero. -/
theorem init_s : (init (F := Ideal) x Wq Wk Wv Wg bg dp).main_v30_6 (ix3 b a e) = 0 := by
  pointwise [init, K_main_v24, K_main_cst_5]

/-- The result made after the loop: the read-outs projected, plus the bias. -/
theorem result_apply (s : Step.State Ideal) (wo : FVec Ideal S64x1024 .f32) (bo : FVec Ideal S1024 .f32)
    (i : Fin 1024) :
    R_main_v35 s wo bo (ix3 b t i) = ∑ e, s.main_v30_7 (ix3 t b e) * wo (ix2 e i) + bo (ix1 i) := by
  pointwise [R_main_v35]

/-! ## The loop -/

/-- The loop's state after `n` trips. -/
def trips : ℕ → Step.State Ideal
  | 0 => init (F := Ideal) x Wq Wk Wv Wg bg dp
  | n + 1 => step n (trips n)

/-- What no trip changes. -/
theorem trips_const (n : ℕ) :
    (trips x Wq Wk Wv Wg bg dp n).main_v30_0 = (init (F := Ideal) x Wq Wk Wv Wg bg dp).main_v30_0
      ∧ (trips x Wq Wk Wv Wg bg dp n).main_v30_1 = (init (F := Ideal) x Wq Wk Wv Wg bg dp).main_v30_1
      ∧ (trips x Wq Wk Wv Wg bg dp n).main_v30_2 = (init (F := Ideal) x Wq Wk Wv Wg bg dp).main_v30_2
      ∧ (trips x Wq Wk Wv Wg bg dp n).main_v30_3 = (init (F := Ideal) x Wq Wk Wv Wg bg dp).main_v30_3
      ∧ (trips x Wq Wk Wv Wg bg dp n).main_v30_4 = (init (F := Ideal) x Wq Wk Wv Wg bg dp).main_v30_4 := by
  induction n with
  | zero => exact ⟨rfl, rfl, rfl, rfl, rfl⟩
  | succ n ih => exact ih

variable {x Wq Wk Wv} (hx : Reals x) (hq : Reals Wq) (hk : Reals Wk) (hv : Reals Wv)
include hx hk hv

/-- One trip of the loop takes the recurrence's state to its next. -/
theorem trip_recur {n : ℕ} (hn : n < 4096) (b : Fin 8)
    (h : ∀ a e, (trips x Wq Wk Wv Wg bg dp n).main_v30_6 (ix3 b a e)
      = (state (decay dp) (gate x Wg bg b) (proj x Wk b) (proj x Wv b) n a e : EReal)) (a e : Fin 64) :
    b29 n (trips x Wq Wk Wv Wg bg dp n) (ix3 b a e)
      = (state (decay dp) (gate x Wg bg b) (proj x Wk b) (proj x Wv b) (n + 1) a e : EReal) := by
  obtain ⟨-, e1, e2, e3, e4⟩ := trips_const x Wq Wk Wv Wg bg dp n
  rw [trip_state, trip_k _ hn, trip_v _ hn, trip_g _ hn, e1, e2, e3, e4, h, init_k, init_v, init_g, init_d,
    projE_eq _ _ _ hx hk, projE_eq _ _ _ hx hv, gate_eq, (decay_spec dp).2]
  simp only [state, EReal.coe_add, EReal.coe_mul]

/-- After `n` trips the state is the recurrence's before step `n`. -/
theorem trips_state (n : ℕ) (hn : n ≤ 4096) (b : Fin 8) (a e : Fin 64) :
    (trips x Wq Wk Wv Wg bg dp n).main_v30_6 (ix3 b a e)
      = (state (decay dp) (gate x Wg bg b) (proj x Wk b) (proj x Wv b) n a e : EReal) := by
  induction n generalizing a e with
  | zero => exact init_s x Wq Wk Wv Wg bg dp b a e
  | succ n ih => exact trip_recur Wg bg dp hx hk hv hn b (ih (by omega)) a e

include hq

/-- After `n` trips the first `n` rows are the recurrence's read-outs. -/
theorem trips_out (n : ℕ) (hn : n ≤ 4096) (b : Fin 8) (t : Fin 4096) (ht : (t : ℕ) < n) (e : Fin 64) :
    (trips x Wq Wk Wv Wg bg dp n).main_v30_7 (ix3 t b e)
      = (readout (decay dp) (gate x Wg bg b) (proj x Wq b) (proj x Wk b) (proj x Wv b) t e : EReal) := by
  induction n with
  | zero => exact absurd ht (Nat.not_lt_zero _)
  | succ n ih =>
    refine (trip_out (trips x Wq Wk Wv Wg bg dp n) hn t b e).trans ?_
    by_cases h : (t : ℕ) = n
    · have e0 := (trips_const x Wq Wk Wv Wg bg dp n).1
      have hh : (⟨n, hn⟩ : Fin 4096) = t := Fin.ext h.symm
      rw [if_pos h, trip_row, readout, coe_sum]
      refine Finset.sum_congr rfl fun a _ => ?_
      rw [trip_q _ hn, e0, init_q, projE_eq _ _ _ hx hq,
        trip_recur Wg bg dp hx hk hv hn b (trips_state Wg bg dp hx hk hv n (by omega) b) a e, ← EReal.coe_mul, hh, h]
    · rw [if_neg h]
      exact ih (by omega) (by omega)

end

end Cert.Gla
-- ==== Proof.RefLoop.lean ====
module

public import proofs.«01_k».proof.Proof.RefStep
public import proofs.«01_k».proof.Proof.Gen.ReferenceIdeal.Run

@[expose] public section

set_option maxRecDepth 65536

/-! # The reference's two results

The buffers the reference's loop carries, trip by trip, and from them its two results at an index: the read-outs
projected, and the last state. -/

noncomputable section

namespace Cert.Gla

open Idealize.ShloMosaic Idealize.ShloMosaic.TcCoe Idealize.ShloMosaic.Tactic Idealize.SL.Sem StableHlo
open Pipeline
open Cert.ReferenceIdeal Cert.ReferenceIdeal.Gen Cert.ReferenceIdeal.Value

/-- The carried buffers hold the state `s`, and the counter the trip's number `j`. -/
structure AtTrip (V : Valuation τ sig (Elt Ideal)) (s : Step.State Ideal) (j : ℕ) : Prop where
  /-- The queries. -/
  q : V (Proc.devRef .tc main_v30_0) = s.main_v30_0
  /-- The keys. -/
  k : V (Proc.devRef .tc main_v30_1) = s.main_v30_1
  /-- The values. -/
  v : V (Proc.devRef .tc main_v30_2) = s.main_v30_2
  /-- The gates. -/
  g : V (Proc.devRef .tc main_v30_3) = s.main_v30_3
  /-- The decay. -/
  d : V (Proc.devRef .tc main_v30_4) = s.main_v30_4
  /-- The counter. -/
  n : V (Proc.devRef .tc main_v30_5) = constantI S_ 32 (BitVec.ofNat 32 j)
  /-- The state. -/
  st : V (Proc.devRef .tc main_v30_6) = s.main_v30_6
  /-- The read-outs. -/
  out : V (Proc.devRef .tc main_v30_7) = s.main_v30_7

/-- One trip takes the carried buffers to the next state. -/
theorem AtTrip.next {V : Valuation τ sig (Elt Ideal)} {s : Step.State Ideal} {j : ℕ} (h : AtTrip V s j) :
    AtTrip (STEP V) (Step.step j s) (j + 1) where
  q := (STEP_main_v30_0 V).trans h.q
  k := (STEP_main_v30_1 V).trans h.k
  v := (STEP_main_v30_2 V).trans h.v
  g := (STEP_main_v30_3 V).trans h.g
  d := (STEP_main_v30_4 V).trans h.d
  n := by
    rw [STEP_main_v30_5]; unfold step_main_v30_5; rw [h.n]; funext i
    change BitVec.ofNat 32 j + 1#32 = BitVec.ofNat 32 (j + 1); simp only [BitVec.ofNat_add]
  st := by
    rw [STEP_main_v30_6]; unfold step_main_v30_6 res_main_while0b_v54 res_main_while0b_v39
    rw [h.n, h.k, h.v, h.g, h.d, h.st]; rfl
  out := by
    rw [STEP_main_v30_7]; unfold step_main_v30_7 res_main_while0b_v54 res_main_while0b_v39
    rw [h.n, h.q, h.k, h.v, h.g, h.d, h.st, h.out]; rfl

variable (m : (ℓ : Loc nD τ sig) → Buf (Elt Ideal) ℓ) (c : Dev nD)

/-- The inputs. -/
abbrev rX : FVec Ideal S8x4096x1024 .f32 := m ((c : Thread nD τ).loc main_arg0)
/-- The query weights. -/
abbrev rWq : FVec Ideal S1024x64 .f32 := m ((c : Thread nD τ).loc main_arg1)
/-- The key weights. -/
abbrev rWk : FVec Ideal S1024x64 .f32 := m ((c : Thread nD τ).loc main_arg2)
/-- The value weights. -/
abbrev rWv : FVec Ideal S1024x64 .f32 := m ((c : Thread nD τ).loc main_arg3)
/-- The output weights. -/
abbrev rWo : FVec Ideal S64x1024 .f32 := m ((c : Thread nD τ).loc main_arg4)
/-- The output bias. -/
abbrev rBo : FVec Ideal S1024 .f32 := m ((c : Thread nD τ).loc main_arg5)
/-- The gate's weights. -/
abbrev rWg : FVec Ideal S1024x1 .f32 := m ((c : Thread nD τ).loc main_arg6)
/-- The gate's bias. -/
abbrev rBg : FVec Ideal S1 .f32 := m ((c : Thread nD τ).loc main_arg7)
/-- The decay's parameter. -/
abbrev rDp : FVec Ideal S1 .f32 := m ((c : Thread nD τ).loc main_arg8)

set_option maxHeartbeats 400000 in
/-- What the loop finds at its first trip. -/
theorem entry : AtTrip (entryContents preI m c)
    (Step.init (rX m c) (rWq m c) (rWk m c) (rWv m c) (rWg m c) (rBg m c) (rDp m c)) 0 where
  q := by simp only [entryContents, afterL_cons, afterL_nil]; after_reads_simp; rfl
  k := by simp only [entryContents, afterL_cons, afterL_nil]; after_reads_simp; rfl
  v := by simp only [entryContents, afterL_cons, afterL_nil]; after_reads_simp; rfl
  g := by simp only [entryContents, afterL_cons, afterL_nil]; after_reads_simp; rfl
  d := by simp only [entryContents, afterL_cons, afterL_nil]; after_reads_simp; rfl
  n := by simp only [entryContents, afterL_cons, afterL_nil]; after_reads_simp; rfl
  st := by simp only [entryContents, afterL_cons, afterL_nil]; after_reads_simp; rfl
  out := by simp only [entryContents, afterL_cons, afterL_nil]; after_reads_simp; rfl

/-- What the carried buffers hold after `n` trips. -/
theorem at_trips (n : ℕ) : AtTrip (STEP^[n] (entryContents preI m c))
    (trips (rX m c) (rWq m c) (rWk m c) (rWv m c) (rWg m c) (rBg m c) (rDp m c) n) n := by
  induction n with
  | zero => exact entry m c
  | succ n ih => rw [Function.iterate_succ_apply']; exact ih.next

variable {m c} (hx : Reals (rX m c)) (hq : Reals (rWq m c)) (hk : Reals (rWk m c)) (hv : Reals (rWv m c))
include hx hk hv

/-- The reference's second result: the recurrence's state after the last step. -/
theorem ref_state (b : Fin 8) (a e : Fin 64) :
    ((STEP^[4096] (entryContents preI m c)) (Proc.devRef .tc main_v30_6) : FVec Ideal S8x64x64 .f32) (ix3 b a e)
      = (state (decay (rDp m c)) (gate (rX m c) (rWg m c) (rBg m c) b) (proj (rX m c) (rWk m c) b)
          (proj (rX m c) (rWv m c) b) 4096 a e : EReal) := by
  rw [(at_trips m c 4096).st]
  exact trips_state _ _ _ hx hk hv 4096 le_rfl b a e

include hq

/-- The reference's first result: the recurrence's read-outs, projected, plus the bias. -/
theorem ref_rows (b : Fin 8) (t : Fin 4096) (i : Fin 1024) :
    (out_main_v35 (STEP^[4096] (entryContents preI m c)) : FVec Ideal S8x4096x1024 .f32) (ix3 b t i)
      = ∑ e, (readout (decay (rDp m c)) (gate (rX m c) (rWg m c) (rBg m c) b) (proj (rX m c) (rWq m c) b)
          (proj (rX m c) (rWk m c) b) (proj (rX m c) (rWv m c) b) t e : EReal) * rWo m c (ix2 e i)
        + rBo m c (ix1 i) := by
  have h : out_main_v35 (STEP^[4096] (entryContents preI m c))
      = Step.R_main_v35 (trips (rX m c) (rWq m c) (rWk m c) (rWv m c) (rWg m c) (rBg m c) (rDp m c) 4096)
          (rWo m c) (rBo m c) := by
    unfold out_main_v35
    rw [(at_trips m c 4096).out, iter_main_arg4, iter_main_arg5]; rfl
  rw [h, result_apply]
  refine congrArg (· + _) (Finset.sum_congr rfl fun e _ => ?_)
  rw [trips_out _ _ _ hx hq hk hv 4096 le_rfl b t t.isLt e]

end Cert.Gla
-- ==== Proof.Finite.lean ====
module

public import proofs.«01_k».proof.Proof.Spec
public import proofs.«01_k».proof.Proof.Gen.Pre_finite
public import Idealize.ShloMosaic.Lib.ReduceAll

@[expose] public section

set_option maxRecDepth 16384

/-! # The precondition

The precondition says of the inputs and of the three projections' weights that every entry's absolute value is
below infinity; so every entry is a real number. -/

noncomputable section

namespace Cert.Gla

open Idealize.ShloMosaic Idealize.ShloMosaic.Tactic
open Cert.Pre_finite Cert.Pre_finite.Gen

/-- An extended real whose absolute value is below infinity is real. -/
theorem real_of_abs_lt (x : EReal) (h : max x (-x) < Ideal.ofBits .f32 0x7F800000#32) :
    ∃ r : ℝ, x = (r : EReal) := by
  have ht : Ideal.ofBits .f32 0x7F800000#32 = ⊤ := by simp [Ideal.ofBits, Ideal.ieee]
  rw [ht] at h
  induction x using EReal.rec with
  | bot => simp at h
  | coe r => exact ⟨r, rfl⟩
  | top => simp at h

/-- If all entries pass the test, all entries are real. -/
theorem reals_of_test {s : Shape} {axes : List (Fin s.rank)} (x : FVec Ideal s .f32)
    (hb : S_.BroadcastsInDim s (![] : Fin 0 → Fin s.rank)) (hr : s.ReducesTo axes S_)
    (h : Host.reduce IntOp.andi (cmpf .olt (Host.absf x) (broadcastInDim s ![] hb (constant S_ .f32 0x7F800000#32)))
      (constantI S_ 1 1#1) hr h_S_ ix0 = 1#1) : Reals x := by
  intro i
  have hi := Host.reduce_andi_all _ _ hr h_S_ ix0 h i
  pointwise at hi
  change BitVec.ofBool (decide (max (x i) (-x i) < Ideal.ofBits .f32 0x7F800000#32)) = 1#1 at hi
  exact real_of_abs_lt (x i) (by
    by_contra hn
    rw [decide_eq_false hn] at hi
    exact absurd hi (by decide))

/-- The precondition, read: the inputs and the three projections' weights are real. -/
theorem reals_of_pre (x : FVec Ideal S8x4096x1024 .f32) (wq wk wv : FVec Ideal S1024x64 .f32)
    (wo : FVec Ideal S64x1024 .f32) (bo : FVec Ideal S1024 .f32) (wg : FVec Ideal S1024x1 .f32)
    (bg dp : FVec Ideal S1 .f32) (h : Cert.Pre_finite.fn x wq wk wv wo bo wg bg dp = fun _ => 1#1) :
    Reals x ∧ Reals wq ∧ Reals wk ∧ Reals wv := by
  have h0 := congrFun h ix0
  dsimp only [Cert.Pre_finite.fn, Cert.Pre_finite.fn_part1] at h0
  obtain ⟨h1, hv⟩ := IntOp.andi_eq_one.1 h0
  obtain ⟨h2, hk⟩ := IntOp.andi_eq_one.1 h1
  obtain ⟨hx, hq⟩ := IntOp.andi_eq_one.1 h2
  exact ⟨reals_of_test x _ _ hx, reals_of_test wq _ _ hq, reals_of_test wk _ _ hk, reals_of_test wv _ _ hv⟩

end Cert.Gla
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Pre_finite
public import proofs.«01_k».proof.Proof.Arrays
public import proofs.«01_k».proof.Proof.RefLoop
public import proofs.«01_k».proof.Proof.Finite
public import Idealize.ShloMosaic.Adequacy
public import Idealize.ShloMosaic.Init

@[expose] public section

noncomputable section

namespace Cert.Proof

open Idealize.ShloMosaic Idealize.ShloMosaic.TcCoe Idealize.ShloMosaic.Tactic Idealize.SL.Sem Cert.Gla

/-- The reference terminates, leaves its arguments unchanged and, having no semaphores, every counter at zero. -/
theorem reference_frame : Cert.quiescent_ReferenceIdeal :=
  fun m g _ => θ_run_mono (Cert.ReferenceIdeal.Value.run m g) fun r h =>
    ⟨fun c => (h c).2.2, sem_eq_zero_of_no_sems rfl r.2⟩

/-- Kernel and reference compute the same two results over the extended reals, where the inputs and the
    projections' weights are finite. -/
theorem same_results : Cert.algebraic_KernelIdeal_ReferenceIdeal_pre_finite := by
  intro m g m' g' hpre hag
  have H : ∀ c, RealArgs m c := fun c => by
    obtain ⟨hx, hq, hk, hv⟩ := reals_of_pre _ _ _ _ _ _ _ _ _ (hpre c)
    exact ⟨hx, hq, hk, hv⟩
  refine ⟨fun c => rowsOut m c, fun c => stateOut m c,
    θ_run_mono (Cert.KernelIdeal.Value.run_blocks m g) fun r h c =>
      ⟨(h c).1.trans (rows_final (H c)), (h c).2.1.trans (state_final (H c)), (h c).2.2⟩,
    θ_run_mono (Cert.ReferenceIdeal.Value.run m' g') fun r h c => ⟨(h c).1.trans ?_, (h c).2.1.trans ?_, (h c).2.2⟩⟩
  all_goals
    obtain ⟨e0, e1, e2, e3, e4, e5, e6, e7, e8⟩ := hag c
    have hx : Reals (rX m' c) := by rw [rX, e0]; exact (H c).x
    have hq : Reals (rWq m' c) := by rw [rWq, e1]; exact (H c).q
    have hk : Reals (rWk m' c) := by rw [rWk, e2]; exact (H c).k
    have hv : Reals (rWv m' c) := by rw [rWv, e3]; exact (H c).v
    funext j
    idx_vars j
  · refine (ref_rows hx hq hk hv _ _ _).trans ?_
    simp only [rX, rWq, rWk, rWv, rWo, rBo, rWg, rBg, rDp, e0, e1, e2, e3, e4, e5, e6, e7, e8]
    rfl
  · refine (ref_state hx hk hv _ _ _).trans ?_
    simp only [rX, rWk, rWv, rWg, rBg, rDp, e0, e2, e3, e6, e7, e8]
    rfl

/-- Every claim of the certificate. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g, fun m g _ => Cert.KernelIdeal.Gen.frame m g,
    fun m g _ => Cert.KernelIdeal.Gen.frame m g, reference_frame, fun m g _ => reference_frame m g trivial, trivial,
    same_results⟩

end Cert.Proof

end
